-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_Moe [hPre_experts_named : Cert.Pre_experts_named.Facts] (m : (ℓ : Loc Cert.Moe.nD Cert.Moe.τ Cert.Moe.sig) → Buf (Elt Bits) ℓ) : Prop :=
  ∀ c : Dev Cert.Moe.nD,
    (Cert.Pre_experts_named.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7))) = (fun _ => 1#1)

def Pre_MoeIdeal [hPre_experts_named : Cert.Pre_experts_named.Facts] (m : (ℓ : Loc Cert.MoeIdeal.nD Cert.MoeIdeal.τ Cert.MoeIdeal.sig) → Buf (Elt Ideal) ℓ) : Prop :=
  ∀ c : Dev Cert.MoeIdeal.nD,
    (Cert.Pre_experts_named.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_experts_named [hPre_experts_named : Cert.Pre_experts_named.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_experts_named.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Kvprep (m : (ℓ : Loc Cert.Kvprep.nD Cert.Kvprep.τ Cert.Kvprep.sig) → Buf (Elt Bits) ℓ) : Prop :=
  True

def Pre_KvprepIdeal (m : (ℓ : Loc Cert.KvprepIdeal.nD Cert.KvprepIdeal.τ Cert.KvprepIdeal.sig) → Buf (Elt Ideal) ℓ) : Prop :=
  True

def Pre_KvprepRefIdeal (m : (ℓ : Loc Cert.KvprepRefIdeal.nD Cert.KvprepRefIdeal.τ Cert.KvprepRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5)
      ∧ r.2.mem ((c.tc : Thread Cert.Gla.nD Cert.Gla.τ).loc Cert.Gla.main_arg6) = m ((c.tc : Thread Cert.Gla.nD Cert.Gla.τ).loc Cert.Gla.main_arg6)
      ∧ r.2.mem ((c.tc : Thread Cert.Gla.nD Cert.Gla.τ).loc Cert.Gla.main_arg7) = m ((c.tc : Thread Cert.Gla.nD Cert.Gla.τ).loc Cert.Gla.main_arg7))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
      ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
      ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5)
      ∧ r.2.mem ((c.tc : Thread Cert.GlaRefIdeal.nD Cert.GlaRefIdeal.τ).loc Cert.GlaRefIdeal.main_arg6) = m ((c.tc : Thread Cert.GlaRefIdeal.nD Cert.GlaRefIdeal.τ).loc Cert.GlaRefIdeal.main_arg6)
      ∧ r.2.mem ((c.tc : Thread Cert.GlaRefIdeal.nD Cert.GlaRefIdeal.τ).loc Cert.GlaRefIdeal.main_arg7) = m ((c.tc : Thread Cert.GlaRefIdeal.nD Cert.GlaRefIdeal.τ).loc Cert.GlaRefIdeal.main_arg7))
      ∧ r.2.sem = fun _ => 0)

def quiescent_Moe [hMoe : Cert.Moe.Facts] [hPre_experts_named : Cert.Pre_experts_named.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] [hPre_experts_named : Cert.Pre_experts_named.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_MoeRefIdeal_pre_experts_named [hMoeRefIdeal : Cert.MoeRefIdeal.Facts] [hPre_experts_named : Cert.Pre_experts_named.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_experts_named m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6))
      ∧ r.2.sem = fun _ => 0)

def quiescent_Kvprep [hKvprep : Cert.Kvprep.Facts] : Prop :=
  ∀ (m : (ℓ : Loc Cert.Kvprep.nD Cert.Kvprep.τ Cert.Kvprep.sig) → Buf (Elt Bits) ℓ) (g : Dev Cert.Kvprep.nD → PrngReg), Pre_Kvprep m →
    θ_run (Cert.Kvprep.defs (F := Bits)) (onTc (τ := Cert.Kvprep.τ) (Cert.Kvprep.main (F := Bits))) ⟨m, fun _ => 0, g⟩ (fun r => (∀ c : Dev Cert.Kvprep.nD,
      r.2.mem ((c.tc : Thread Cert.Kvprep.nD Cert.Kvprep.τ).loc Cert.Kvprep.main_arg0) = m ((c.tc : Thread Cert.Kvprep.nD Cert.Kvprep.τ).loc Cert.Kvprep.main_arg0)
      ∧ r.2.mem ((c.tc : Thread Cert.Kvprep.nD Cert.Kvprep.τ).loc Cert.Kvprep.main_arg1) = m ((c.tc : Thread Cert.Kvprep.nD Cert.Kvprep.τ).loc Cert.Kvprep.main_arg1)
      ∧ r.2.mem ((c.tc : Thread Cert.Kvprep.nD Cert.Kvprep.τ).loc Cert.Kvprep.main_arg2) = m ((c.tc : Thread Cert.Kvprep.nD Cert.Kvprep.τ).loc Cert.Kvprep.main_arg2)
      ∧ r.2.mem ((c.tc : Thread Cert.Kvprep.nD Cert.Kvprep.τ).loc Cert.Kvprep.main_arg3) = m ((c.tc : Thread Cert.Kvprep.nD Cert.Kvprep.τ).loc Cert.Kvprep.main_arg3)
      ∧ r.2.mem ((c.tc : Thread Cert.Kvprep.nD Cert.Kvprep.τ).loc Cert.Kvprep.main_arg4) = m ((c.tc : Thread Cert.Kvprep.nD Cert.Kvprep.τ).loc Cert.Kvprep.main_arg4)
      ∧ r.2.mem ((c.tc : Thread Cert.Kvprep.nD Cert.Kvprep.τ).loc Cert.Kvprep.main_arg5) = m ((c.tc : Thread Cert.Kvprep.nD Cert.Kvprep.τ).loc Cert.Kvprep.main_arg5)
      ∧ r.2.mem ((c.tc : Thread Cert.Kvprep.nD Cert.Kvprep.τ).loc Cert.Kvprep.main_arg6) = m ((c.tc : Thread Cert.Kvprep.nD Cert.Kvprep.τ).loc Cert.Kvprep.main_arg6)
      ∧ r.2.mem ((c.tc : Thread Cert.Kvprep.nD Cert.Kvprep.τ).loc Cert.Kvprep.main_arg7) = m ((c.tc : Thread Cert.Kvprep.nD Cert.Kvprep.τ).loc Cert.Kvprep.main_arg7)
      ∧ r.2.mem ((c.tc : Thread Cert.Kvprep.nD Cert.Kvprep.τ).loc Cert.Kvprep.main_arg8) = m ((c.tc : Thread Cert.Kvprep.nD Cert.Kvprep.τ).loc Cert.Kvprep.main_arg8)
      ∧ r.2.mem ((c.tc : Thread Cert.Kvprep.nD Cert.Kvprep.τ).loc Cert.Kvprep.main_arg9) = m ((c.tc : Thread Cert.Kvprep.nD Cert.Kvprep.τ).loc Cert.Kvprep.main_arg9)
      ∧ r.2.mem ((c.tc : Thread Cert.Kvprep.nD Cert.Kvprep.τ).loc Cert.Kvprep.main_arg10) = m ((c.tc : Thread Cert.Kvprep.nD Cert.Kvprep.τ).loc Cert.Kvprep.main_arg10)
      ∧ r.2.mem ((c.tc : Thread Cert.Kvprep.nD Cert.Kvprep.τ).loc Cert.Kvprep.main_arg11) = m ((c.tc : Thread Cert.Kvprep.nD Cert.Kvprep.τ).loc Cert.Kvprep.main_arg11))
      ∧ r.2.sem = fun _ => 0)

def quiescent_KvprepIdeal [hKvprepIdeal : Cert.KvprepIdeal.Facts] : Prop :=
  ∀ (m : (ℓ : Loc Cert.KvprepIdeal.nD Cert.KvprepIdeal.τ Cert.KvprepIdeal.sig) → Buf (Elt Ideal) ℓ) (g : Dev Cert.KvprepIdeal.nD → PrngReg), Pre_KvprepIdeal m →
    θ_run (Cert.KvprepIdeal.defs (F := Ideal)) (onTc (τ := Cert.KvprepIdeal.τ) (Cert.KvprepIdeal.main (F := Ideal))) ⟨m, fun _ => 0, g⟩ (fun r => (∀ c : Dev Cert.KvprepIdeal.nD,
      r.2.mem ((c.tc : Thread Cert.KvprepIdeal.nD Cert.KvprepIdeal.τ).loc Cert.KvprepIdeal.main_arg0) = m ((c.tc : Thread Cert.KvprepIdeal.nD Cert.KvprepIdeal.τ).loc Cert.KvprepIdeal.main_arg0)
      ∧ r.2.mem ((c.tc : Thread Cert.KvprepIdeal.nD Cert.KvprepIdeal.τ).loc Cert.KvprepIdeal.main_arg1) = m ((c.tc : Thread Cert.KvprepIdeal.nD Cert.KvprepIdeal.τ).loc Cert.KvprepIdeal.main_arg1)
      ∧ r.2.mem ((c.tc : Thread Cert.KvprepIdeal.nD Cert.KvprepIdeal.τ).loc Cert.KvprepIdeal.main_arg2) = m ((c.tc : Thread Cert.KvprepIdeal.nD Cert.KvprepIdeal.τ).loc Cert.KvprepIdeal.main_arg2)
      ∧ r.2.mem ((c.tc : Thread Cert.KvprepIdeal.nD Cert.KvprepIdeal.τ).loc Cert.KvprepIdeal.main_arg3) = m ((c.tc : Thread Cert.KvprepIdeal.nD Cert.KvprepIdeal.τ).loc Cert.KvprepIdeal.main_arg3)
      ∧ r.2.mem ((c.tc : Thread Cert.KvprepIdeal.nD Cert.KvprepIdeal.τ).loc Cert.KvprepIdeal.main_arg4) = m ((c.tc : Thread Cert.KvprepIdeal.nD Cert.KvprepIdeal.τ).loc Cert.KvprepIdeal.main_arg4)
      ∧ r.2.mem ((c.tc : Thread Cert.KvprepIdeal.nD Cert.KvprepIdeal.τ).loc Cert.KvprepIdeal.main_arg5) = m ((c.tc : Thread Cert.KvprepIdeal.nD Cert.KvprepIdeal.τ).loc Cert.KvprepIdeal.main_arg5)
      ∧ r.2.mem ((c.tc : Thread Cert.KvprepIdeal.nD Cert.KvprepIdeal.τ).loc Cert.KvprepIdeal.main_arg6) = m ((c.tc : Thread Cert.KvprepIdeal.nD Cert.KvprepIdeal.τ).loc Cert.KvprepIdeal.main_arg6)
      ∧ r.2.mem ((c.tc : Thread Cert.KvprepIdeal.nD Cert.KvprepIdeal.τ).loc Cert.KvprepIdeal.main_arg7) = m ((c.tc : Thread Cert.KvprepIdeal.nD Cert.KvprepIdeal.τ).loc Cert.KvprepIdeal.main_arg7)
      ∧ r.2.mem ((c.tc : Thread Cert.KvprepIdeal.nD Cert.KvprepIdeal.τ).loc Cert.KvprepIdeal.main_arg8) = m ((c.tc : Thread Cert.KvprepIdeal.nD Cert.KvprepIdeal.τ).loc Cert.KvprepIdeal.main_arg8)
      ∧ r.2.mem ((c.tc : Thread Cert.KvprepIdeal.nD Cert.KvprepIdeal.τ).loc Cert.KvprepIdeal.main_arg9) = m ((c.tc : Thread Cert.KvprepIdeal.nD Cert.KvprepIdeal.τ).loc Cert.KvprepIdeal.main_arg9)
      ∧ r.2.mem ((c.tc : Thread Cert.KvprepIdeal.nD Cert.KvprepIdeal.τ).loc Cert.KvprepIdeal.main_arg10) = m ((c.tc : Thread Cert.KvprepIdeal.nD Cert.KvprepIdeal.τ).loc Cert.KvprepIdeal.main_arg10)
      ∧ r.2.mem ((c.tc : Thread Cert.KvprepIdeal.nD Cert.KvprepIdeal.τ).loc Cert.KvprepIdeal.main_arg11) = m ((c.tc : Thread Cert.KvprepIdeal.nD Cert.KvprepIdeal.τ).loc Cert.KvprepIdeal.main_arg11))
      ∧ r.2.sem = fun _ => 0)

def quiescent_KvprepRefIdeal [hKvprepRefIdeal : Cert.KvprepRefIdeal.Facts] : Prop :=
  ∀ (m : (ℓ : Loc Cert.KvprepRefIdeal.nD Cert.KvprepRefIdeal.τ Cert.KvprepRefIdeal.sig) → Buf (Elt Ideal) ℓ) (g : Dev Cert.KvprepRefIdeal.nD → PrngReg), Pre_KvprepRefIdeal m →
    θ_run (Cert.KvprepRefIdeal.defs (F := Ideal)) (onTc (τ := Cert.KvprepRefIdeal.τ) (Cert.KvprepRefIdeal.main (F := Ideal))) ⟨m, fun _ => 0, g⟩ (fun r => (∀ c : Dev Cert.KvprepRefIdeal.nD,
      r.2.mem ((c.tc : Thread Cert.KvprepRefIdeal.nD Cert.KvprepRefIdeal.τ).loc Cert.KvprepRefIdeal.main_arg0) = m ((c.tc : Thread Cert.KvprepRefIdeal.nD Cert.KvprepRefIdeal.τ).loc Cert.KvprepRefIdeal.main_arg0)
      ∧ r.2.mem ((c.tc : Thread Cert.KvprepRefIdeal.nD Cert.KvprepRefIdeal.τ).loc Cert.KvprepRefIdeal.main_arg1) = m ((c.tc : Thread Cert.KvprepRefIdeal.nD Cert.KvprepRefIdeal.τ).loc Cert.KvprepRefIdeal.main_arg1)
      ∧ r.2.mem ((c.tc : Thread Cert.KvprepRefIdeal.nD Cert.KvprepRefIdeal.τ).loc Cert.KvprepRefIdeal.main_arg2) = m ((c.tc : Thread Cert.KvprepRefIdeal.nD Cert.KvprepRefIdeal.τ).loc Cert.KvprepRefIdeal.main_arg2)
      ∧ r.2.mem ((c.tc : Thread Cert.KvprepRefIdeal.nD Cert.KvprepRefIdeal.τ).loc Cert.KvprepRefIdeal.main_arg3) = m ((c.tc : Thread Cert.KvprepRefIdeal.nD Cert.KvprepRefIdeal.τ).loc Cert.KvprepRefIdeal.main_arg3)
      ∧ r.2.mem ((c.tc : Thread Cert.KvprepRefIdeal.nD Cert.KvprepRefIdeal.τ).loc Cert.KvprepRefIdeal.main_arg4) = m ((c.tc : Thread Cert.KvprepRefIdeal.nD Cert.KvprepRefIdeal.τ).loc Cert.KvprepRefIdeal.main_arg4)
      ∧ r.2.mem ((c.tc : Thread Cert.KvprepRefIdeal.nD Cert.KvprepRefIdeal.τ).loc Cert.KvprepRefIdeal.main_arg5) = m ((c.tc : Thread Cert.KvprepRefIdeal.nD Cert.KvprepRefIdeal.τ).loc Cert.KvprepRefIdeal.main_arg5)
      ∧ r.2.mem ((c.tc : Thread Cert.KvprepRefIdeal.nD Cert.KvprepRefIdeal.τ).loc Cert.KvprepRefIdeal.main_arg6) = m ((c.tc : Thread Cert.KvprepRefIdeal.nD Cert.KvprepRefIdeal.τ).loc Cert.KvprepRefIdeal.main_arg6)
      ∧ r.2.mem ((c.tc : Thread Cert.KvprepRefIdeal.nD Cert.KvprepRefIdeal.τ).loc Cert.KvprepRefIdeal.main_arg7) = m ((c.tc : Thread Cert.KvprepRefIdeal.nD Cert.KvprepRefIdeal.τ).loc Cert.KvprepRefIdeal.main_arg7)
      ∧ r.2.mem ((c.tc : Thread Cert.KvprepRefIdeal.nD Cert.KvprepRefIdeal.τ).loc Cert.KvprepRefIdeal.main_arg8) = m ((c.tc : Thread Cert.KvprepRefIdeal.nD Cert.KvprepRefIdeal.τ).loc Cert.KvprepRefIdeal.main_arg8)
      ∧ r.2.mem ((c.tc : Thread Cert.KvprepRefIdeal.nD Cert.KvprepRefIdeal.τ).loc Cert.KvprepRefIdeal.main_arg9) = m ((c.tc : Thread Cert.KvprepRefIdeal.nD Cert.KvprepRefIdeal.τ).loc Cert.KvprepRefIdeal.main_arg9)
      ∧ r.2.mem ((c.tc : Thread Cert.KvprepRefIdeal.nD Cert.KvprepRefIdeal.τ).loc Cert.KvprepRefIdeal.main_arg10) = m ((c.tc : Thread Cert.KvprepRefIdeal.nD Cert.KvprepRefIdeal.τ).loc Cert.KvprepRefIdeal.main_arg10)
      ∧ r.2.mem ((c.tc : Thread Cert.KvprepRefIdeal.nD Cert.KvprepRefIdeal.τ).loc Cert.KvprepRefIdeal.main_arg11) = m ((c.tc : Thread Cert.KvprepRefIdeal.nD Cert.KvprepRefIdeal.τ).loc Cert.KvprepRefIdeal.main_arg11))
      ∧ r.2.sem = fun _ => 0)

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)
      ∧ m' ((c.tc : Thread Cert.GlaRefIdeal.nD Cert.GlaRefIdeal.τ).loc Cert.GlaRefIdeal.main_arg6) = m ((c.tc : Thread Cert.GlaIdeal.nD Cert.GlaIdeal.τ).loc Cert.GlaIdeal.main_arg6)
      ∧ m' ((c.tc : Thread Cert.GlaRefIdeal.nD Cert.GlaRefIdeal.τ).loc Cert.GlaRefIdeal.main_arg7) = m ((c.tc : Thread Cert.GlaIdeal.nD Cert.GlaIdeal.τ).loc Cert.GlaIdeal.main_arg7)) →
    ∃ (v0 : (c : Dev Cert.GlaIdeal.nD) → Buf (Elt Ideal) ((c.tc : Thread Cert.GlaIdeal.nD Cert.GlaIdeal.τ).loc Cert.GlaIdeal.main_v12)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v12) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5)
          ∧ r.2.mem ((c.tc : Thread Cert.GlaIdeal.nD Cert.GlaIdeal.τ).loc Cert.GlaIdeal.main_arg6) = m ((c.tc : Thread Cert.GlaIdeal.nD Cert.GlaIdeal.τ).loc Cert.GlaIdeal.main_arg6)
          ∧ r.2.mem ((c.tc : Thread Cert.GlaIdeal.nD Cert.GlaIdeal.τ).loc Cert.GlaIdeal.main_arg7) = m ((c.tc : Thread Cert.GlaIdeal.nD Cert.GlaIdeal.τ).loc Cert.GlaIdeal.main_arg7))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v80) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5)
          ∧ r.2.mem ((c.tc : Thread Cert.GlaRefIdeal.nD Cert.GlaRefIdeal.τ).loc Cert.GlaRefIdeal.main_arg6) = m' ((c.tc : Thread Cert.GlaRefIdeal.nD Cert.GlaRefIdeal.τ).loc Cert.GlaRefIdeal.main_arg6)
          ∧ r.2.mem ((c.tc : Thread Cert.GlaRefIdeal.nD Cert.GlaRefIdeal.τ).loc Cert.GlaRefIdeal.main_arg7) = m' ((c.tc : Thread Cert.GlaRefIdeal.nD Cert.GlaRefIdeal.τ).loc Cert.GlaRefIdeal.main_arg7))

def preserves_Moe_MoeIdeal : Prop :=
  True

def algebraic_MoeIdeal_MoeRefIdeal [hMoeIdeal : Cert.MoeIdeal.Facts] [hMoeRefIdeal : Cert.MoeRefIdeal.Facts] [hPre_experts_named : Cert.Pre_experts_named.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v5)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v5) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v65) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v3_0)) (v1 : (c : Dev Cert.InprojIdeal.nD) → Buf (Elt Ideal) ((c.tc : Thread Cert.InprojIdeal.nD Cert.InprojIdeal.τ).loc Cert.InprojIdeal.main_v3_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3_0) = v0 c
          ∧ r.2.mem ((c.tc : Thread Cert.InprojIdeal.nD Cert.InprojIdeal.τ).loc Cert.InprojIdeal.main_v3_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v14) = v0 c
          ∧ r.2.mem ((c.tc : Thread Cert.InprojRefIdeal.nD Cert.InprojRefIdeal.τ).loc Cert.InprojRefIdeal.main_v15) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)) →
    ∃ (v0 : (c : Dev Cert.OutprojIdeal.nD) → Buf (Elt Ideal) ((c.tc : Thread Cert.OutprojIdeal.nD Cert.OutprojIdeal.τ).loc Cert.OutprojIdeal.main_v13_0)) (v1 : (c : Dev Cert.OutprojIdeal.nD) → Buf (Elt Ideal) ((c.tc : Thread Cert.OutprojIdeal.nD Cert.OutprojIdeal.τ).loc Cert.OutprojIdeal.main_v13_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v13_0) = v0 c
          ∧ r.2.mem ((c.tc : Thread Cert.OutprojIdeal.nD Cert.OutprojIdeal.τ).loc Cert.OutprojIdeal.main_v13_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v3) = v0 c
          ∧ r.2.mem ((c.tc : Thread Cert.OutprojRefIdeal.nD Cert.OutprojRefIdeal.τ).loc Cert.OutprojRefIdeal.main_v17) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6))

def preserves_Kvprep_KvprepIdeal : Prop :=
  True

def algebraic_KvprepIdeal_KvprepRefIdeal_on_blocks_inside [hKvprepIdeal : Cert.KvprepIdeal.Facts] [hKvprepRefIdeal : Cert.KvprepRefIdeal.Facts] [hOn_blocks_inside : Cert.On_blocks_inside.Facts] : Prop :=
  ∀ (m : (ℓ : Loc Cert.KvprepIdeal.nD Cert.KvprepIdeal.τ Cert.KvprepIdeal.sig) → Buf (Elt Ideal) ℓ) (g : Dev Cert.KvprepIdeal.nD → PrngReg)
    (m' : (ℓ : Loc Cert.KvprepRefIdeal.nD Cert.KvprepRefIdeal.τ Cert.KvprepRefIdeal.sig) → Buf (Elt Ideal) ℓ) (g' : Dev Cert.KvprepRefIdeal.nD → PrngReg), Pre_KvprepIdeal m →
    (∀ c : Dev Cert.KvprepIdeal.nD,
      m' ((c.tc : Thread Cert.KvprepRefIdeal.nD Cert.KvprepRefIdeal.τ).loc Cert.KvprepRefIdeal.main_arg0) = m ((c.tc : Thread Cert.KvprepIdeal.nD Cert.KvprepIdeal.τ).loc Cert.KvprepIdeal.main_arg0)
      ∧ m' ((c.tc : Thread Cert.KvprepRefIdeal.nD Cert.KvprepRefIdeal.τ).loc Cert.KvprepRefIdeal.main_arg1) = m ((c.tc : Thread Cert.KvprepIdeal.nD Cert.KvprepIdeal.τ).loc Cert.KvprepIdeal.main_arg1)
      ∧ m' ((c.tc : Thread Cert.KvprepRefIdeal.nD Cert.KvprepRefIdeal.τ).loc Cert.KvprepRefIdeal.main_arg2) = m ((c.tc : Thread Cert.KvprepIdeal.nD Cert.KvprepIdeal.τ).loc Cert.KvprepIdeal.main_arg2)
      ∧ m' ((c.tc : Thread Cert.KvprepRefIdeal.nD Cert.KvprepRefIdeal.τ).loc Cert.KvprepRefIdeal.main_arg3) = m ((c.tc : Thread Cert.KvprepIdeal.nD Cert.KvprepIdeal.τ).loc Cert.KvprepIdeal.main_arg3)
      ∧ m' ((c.tc : Thread Cert.KvprepRefIdeal.nD Cert.KvprepRefIdeal.τ).loc Cert.KvprepRefIdeal.main_arg4) = m ((c.tc : Thread Cert.KvprepIdeal.nD Cert.KvprepIdeal.τ).loc Cert.KvprepIdeal.main_arg4)
      ∧ m' ((c.tc : Thread Cert.KvprepRefIdeal.nD Cert.KvprepRefIdeal.τ).loc Cert.KvprepRefIdeal.main_arg5) = m ((c.tc : Thread Cert.KvprepIdeal.nD Cert.KvprepIdeal.τ).loc Cert.KvprepIdeal.main_arg5)
      ∧ m' ((c.tc : Thread Cert.KvprepRefIdeal.nD Cert.KvprepRefIdeal.τ).loc Cert.KvprepRefIdeal.main_arg6) = m ((c.tc : Thread Cert.KvprepIdeal.nD Cert.KvprepIdeal.τ).loc Cert.KvprepIdeal.main_arg6)
      ∧ m' ((c.tc : Thread Cert.KvprepRefIdeal.nD Cert.KvprepRefIdeal.τ).loc Cert.KvprepRefIdeal.main_arg7) = m ((c.tc : Thread Cert.KvprepIdeal.nD Cert.KvprepIdeal.τ).loc Cert.KvprepIdeal.main_arg7)
      ∧ m' ((c.tc : Thread Cert.KvprepRefIdeal.nD Cert.KvprepRefIdeal.τ).loc Cert.KvprepRefIdeal.main_arg8) = m ((c.tc : Thread Cert.KvprepIdeal.nD Cert.KvprepIdeal.τ).loc Cert.KvprepIdeal.main_arg8)
      ∧ m' ((c.tc : Thread Cert.KvprepRefIdeal.nD Cert.KvprepRefIdeal.τ).loc Cert.KvprepRefIdeal.main_arg9) = m ((c.tc : Thread Cert.KvprepIdeal.nD Cert.KvprepIdeal.τ).loc Cert.KvprepIdeal.main_arg9)
      ∧ m' ((c.tc : Thread Cert.KvprepRefIdeal.nD Cert.KvprepRefIdeal.τ).loc Cert.KvprepRefIdeal.main_arg10) = m ((c.tc : Thread Cert.KvprepIdeal.nD Cert.KvprepIdeal.τ).loc Cert.KvprepIdeal.main_arg10)
      ∧ m' ((c.tc : Thread Cert.KvprepRefIdeal.nD Cert.KvprepRefIdeal.τ).loc Cert.KvprepRefIdeal.main_arg11) = m ((c.tc : Thread Cert.KvprepIdeal.nD Cert.KvprepIdeal.τ).loc Cert.KvprepIdeal.main_arg11)) →
    ∃ (v0 : (c : Dev Cert.KvprepIdeal.nD) → Buf (Elt Ideal) ((c.tc : Thread Cert.KvprepIdeal.nD Cert.KvprepIdeal.τ).loc Cert.KvprepIdeal.main_v76_0)) (v1 : (c : Dev Cert.KvprepIdeal.nD) → Buf (Elt Ideal) ((c.tc : Thread Cert.KvprepIdeal.nD Cert.KvprepIdeal.τ).loc Cert.KvprepIdeal.main_v76_1)),
      θ_run (Cert.KvprepIdeal.defs (F := Ideal)) (onTc (τ := Cert.KvprepIdeal.τ) (Cert.KvprepIdeal.main (F := Ideal))) ⟨m, fun _ => 0, g⟩ (fun r => ∀ c : Dev Cert.KvprepIdeal.nD,
          (∀ i : (⟨4, ![16, 2, 128, 64]⟩ : Shape).Idx, (Cert.On_blocks_inside.fn (F := Ideal) (m ((c.tc : Thread Cert.KvprepIdeal.nD Cert.KvprepIdeal.τ).loc Cert.KvprepIdeal.main_arg0)) (m ((c.tc : Thread Cert.KvprepIdeal.nD Cert.KvprepIdeal.τ).loc Cert.KvprepIdeal.main_arg1)) (m ((c.tc : Thread Cert.KvprepIdeal.nD Cert.KvprepIdeal.τ).loc Cert.KvprepIdeal.main_arg2)) (m ((c.tc : Thread Cert.KvprepIdeal.nD Cert.KvprepIdeal.τ).loc Cert.KvprepIdeal.main_arg3)) (m ((c.tc : Thread Cert.KvprepIdeal.nD Cert.KvprepIdeal.τ).loc Cert.KvprepIdeal.main_arg4)) (m ((c.tc : Thread Cert.KvprepIdeal.nD Cert.KvprepIdeal.τ).loc Cert.KvprepIdeal.main_arg5)) (m ((c.tc : Thread Cert.KvprepIdeal.nD Cert.KvprepIdeal.τ).loc Cert.KvprepIdeal.main_arg6)) (m ((c.tc : Thread Cert.KvprepIdeal.nD Cert.KvprepIdeal.τ).loc Cert.KvprepIdeal.main_arg7)) (m ((c.tc : Thread Cert.KvprepIdeal.nD Cert.KvprepIdeal.τ).loc Cert.KvprepIdeal.main_arg8)) (m ((c.tc : Thread Cert.KvprepIdeal.nD Cert.KvprepIdeal.τ).loc Cert.KvprepIdeal.main_arg9)) (m ((c.tc : Thread Cert.KvprepIdeal.nD Cert.KvprepIdeal.τ).loc Cert.KvprepIdeal.main_arg10)) (m ((c.tc : Thread Cert.KvprepIdeal.nD Cert.KvprepIdeal.τ).loc Cert.KvprepIdeal.main_arg11))).1 i = 1#1 → r.2.mem ((c.tc : Thread Cert.KvprepIdeal.nD Cert.KvprepIdeal.τ).loc Cert.KvprepIdeal.main_v76_0) i = v0 c i)
          ∧ (∀ i : (⟨4, ![16, 2, 128, 64]⟩ : Shape).Idx, (Cert.On_blocks_inside.fn (F := Ideal) (m ((c.tc : Thread Cert.KvprepIdeal.nD Cert.KvprepIdeal.τ).loc Cert.KvprepIdeal.main_arg0)) (m ((c.tc : Thread Cert.KvprepIdeal.nD Cert.KvprepIdeal.τ).loc Cert.KvprepIdeal.main_arg1)) (m ((c.tc : Thread Cert.KvprepIdeal.nD Cert.KvprepIdeal.τ).loc Cert.KvprepIdeal.main_arg2)) (m ((c.tc : Thread Cert.KvprepIdeal.nD Cert.KvprepIdeal.τ).loc Cert.KvprepIdeal.main_arg3)) (m ((c.tc : Thread Cert.KvprepIdeal.nD Cert.KvprepIdeal.τ).loc Cert.KvprepIdeal.main_arg4)) (m ((c.tc : Thread Cert.KvprepIdeal.nD Cert.KvprepIdeal.τ).loc Cert.KvprepIdeal.main_arg5)) (m ((c.tc : Thread Cert.KvprepIdeal.nD Cert.KvprepIdeal.τ).loc Cert.KvprepIdeal.main_arg6)) (m ((c.tc : Thread Cert.KvprepIdeal.nD Cert.KvprepIdeal.τ).loc Cert.KvprepIdeal.main_arg7)) (m ((c.tc : Thread Cert.KvprepIdeal.nD Cert.KvprepIdeal.τ).loc Cert.KvprepIdeal.main_arg8)) (m ((c.tc : Thread Cert.KvprepIdeal.nD Cert.KvprepIdeal.τ).loc Cert.KvprepIdeal.main_arg9)) (m ((c.tc : Thread Cert.KvprepIdeal.nD Cert.KvprepIdeal.τ).loc Cert.KvprepIdeal.main_arg10)) (m ((c.tc : Thread Cert.KvprepIdeal.nD Cert.KvprepIdeal.τ).loc Cert.KvprepIdeal.main_arg11))).2 i = 1#1 → r.2.mem ((c.tc : Thread Cert.KvprepIdeal.nD Cert.KvprepIdeal.τ).loc Cert.KvprepIdeal.main_v76_1) i = v1 c i)
          ∧ r.2.mem ((c.tc : Thread Cert.KvprepIdeal.nD Cert.KvprepIdeal.τ).loc Cert.KvprepIdeal.main_arg0) = m ((c.tc : Thread Cert.KvprepIdeal.nD Cert.KvprepIdeal.τ).loc Cert.KvprepIdeal.main_arg0)
          ∧ r.2.mem ((c.tc : Thread Cert.KvprepIdeal.nD Cert.KvprepIdeal.τ).loc Cert.KvprepIdeal.main_arg1) = m ((c.tc : Thread Cert.KvprepIdeal.nD Cert.KvprepIdeal.τ).loc Cert.KvprepIdeal.main_arg1)
          ∧ r.2.mem ((c.tc : Thread Cert.KvprepIdeal.nD Cert.KvprepIdeal.τ).loc Cert.KvprepIdeal.main_arg2) = m ((c.tc : Thread Cert.KvprepIdeal.nD Cert.KvprepIdeal.τ).loc Cert.KvprepIdeal.main_arg2)
          ∧ r.2.mem ((c.tc : Thread Cert.KvprepIdeal.nD Cert.KvprepIdeal.τ).loc Cert.KvprepIdeal.main_arg3) = m ((c.tc : Thread Cert.KvprepIdeal.nD Cert.KvprepIdeal.τ).loc Cert.KvprepIdeal.main_arg3)
          ∧ r.2.mem ((c.tc : Thread Cert.KvprepIdeal.nD Cert.KvprepIdeal.τ).loc Cert.KvprepIdeal.main_arg4) = m ((c.tc : Thread Cert.KvprepIdeal.nD Cert.KvprepIdeal.τ).loc Cert.KvprepIdeal.main_arg4)
          ∧ r.2.mem ((c.tc : Thread Cert.KvprepIdeal.nD Cert.KvprepIdeal.τ).loc Cert.KvprepIdeal.main_arg5) = m ((c.tc : Thread Cert.KvprepIdeal.nD Cert.KvprepIdeal.τ).loc Cert.KvprepIdeal.main_arg5)
          ∧ r.2.mem ((c.tc : Thread Cert.KvprepIdeal.nD Cert.KvprepIdeal.τ).loc Cert.KvprepIdeal.main_arg6) = m ((c.tc : Thread Cert.KvprepIdeal.nD Cert.KvprepIdeal.τ).loc Cert.KvprepIdeal.main_arg6)
          ∧ r.2.mem ((c.tc : Thread Cert.KvprepIdeal.nD Cert.KvprepIdeal.τ).loc Cert.KvprepIdeal.main_arg7) = m ((c.tc : Thread Cert.KvprepIdeal.nD Cert.KvprepIdeal.τ).loc Cert.KvprepIdeal.main_arg7)
          ∧ r.2.mem ((c.tc : Thread Cert.KvprepIdeal.nD Cert.KvprepIdeal.τ).loc Cert.KvprepIdeal.main_arg8) = m ((c.tc : Thread Cert.KvprepIdeal.nD Cert.KvprepIdeal.τ).loc Cert.KvprepIdeal.main_arg8)
          ∧ r.2.mem ((c.tc : Thread Cert.KvprepIdeal.nD Cert.KvprepIdeal.τ).loc Cert.KvprepIdeal.main_arg9) = m ((c.tc : Thread Cert.KvprepIdeal.nD Cert.KvprepIdeal.τ).loc Cert.KvprepIdeal.main_arg9)
          ∧ r.2.mem ((c.tc : Thread Cert.KvprepIdeal.nD Cert.KvprepIdeal.τ).loc Cert.KvprepIdeal.main_arg10) = m ((c.tc : Thread Cert.KvprepIdeal.nD Cert.KvprepIdeal.τ).loc Cert.KvprepIdeal.main_arg10)
          ∧ r.2.mem ((c.tc : Thread Cert.KvprepIdeal.nD Cert.KvprepIdeal.τ).loc Cert.KvprepIdeal.main_arg11) = m ((c.tc : Thread Cert.KvprepIdeal.nD Cert.KvprepIdeal.τ).loc Cert.KvprepIdeal.main_arg11))
      ∧ θ_run (Cert.KvprepRefIdeal.defs (F := Ideal)) (onTc (τ := Cert.KvprepRefIdeal.τ) (Cert.KvprepRefIdeal.main (F := Ideal))) ⟨m', fun _ => 0, g'⟩ (fun r => ∀ c : Dev Cert.KvprepRefIdeal.nD,
          (∀ i : (⟨4, ![16, 2, 128, 64]⟩ : Shape).Idx, (Cert.On_blocks_inside.fn (F := Ideal) (m ((c.tc : Thread Cert.KvprepIdeal.nD Cert.KvprepIdeal.τ).loc Cert.KvprepIdeal.main_arg0)) (m ((c.tc : Thread Cert.KvprepIdeal.nD Cert.KvprepIdeal.τ).loc Cert.KvprepIdeal.main_arg1)) (m ((c.tc : Thread Cert.KvprepIdeal.nD Cert.KvprepIdeal.τ).loc Cert.KvprepIdeal.main_arg2)) (m ((c.tc : Thread Cert.KvprepIdeal.nD Cert.KvprepIdeal.τ).loc Cert.KvprepIdeal.main_arg3)) (m ((c.tc : Thread Cert.KvprepIdeal.nD Cert.KvprepIdeal.τ).loc Cert.KvprepIdeal.main_arg4)) (m ((c.tc : Thread Cert.KvprepIdeal.nD Cert.KvprepIdeal.τ).loc Cert.KvprepIdeal.main_arg5)) (m ((c.tc : Thread Cert.KvprepIdeal.nD Cert.KvprepIdeal.τ).loc Cert.KvprepIdeal.main_arg6)) (m ((c.tc : Thread Cert.KvprepIdeal.nD Cert.KvprepIdeal.τ).loc Cert.KvprepIdeal.main_arg7)) (m ((c.tc : Thread Cert.KvprepIdeal.nD Cert.KvprepIdeal.τ).loc Cert.KvprepIdeal.main_arg8)) (m ((c.tc : Thread Cert.KvprepIdeal.nD Cert.KvprepIdeal.τ).loc Cert.KvprepIdeal.main_arg9)) (m ((c.tc : Thread Cert.KvprepIdeal.nD Cert.KvprepIdeal.τ).loc Cert.KvprepIdeal.main_arg10)) (m ((c.tc : Thread Cert.KvprepIdeal.nD Cert.KvprepIdeal.τ).loc Cert.KvprepIdeal.main_arg11))).1 i = 1#1 → r.2.mem ((c.tc : Thread Cert.KvprepRefIdeal.nD Cert.KvprepRefIdeal.τ).loc Cert.KvprepRefIdeal.main_v69) i = v0 c i)
          ∧ (∀ i : (⟨4, ![16, 2, 128, 64]⟩ : Shape).Idx, (Cert.On_blocks_inside.fn (F := Ideal) (m ((c.tc : Thread Cert.KvprepIdeal.nD Cert.KvprepIdeal.τ).loc Cert.KvprepIdeal.main_arg0)) (m ((c.tc : Thread Cert.KvprepIdeal.nD Cert.KvprepIdeal.τ).loc Cert.KvprepIdeal.main_arg1)) (m ((c.tc : Thread Cert.KvprepIdeal.nD Cert.KvprepIdeal.τ).loc Cert.KvprepIdeal.main_arg2)) (m ((c.tc : Thread Cert.KvprepIdeal.nD Cert.KvprepIdeal.τ).loc Cert.KvprepIdeal.main_arg3)) (m ((c.tc : Thread Cert.KvprepIdeal.nD Cert.KvprepIdeal.τ).loc Cert.KvprepIdeal.main_arg4)) (m ((c.tc : Thread Cert.KvprepIdeal.nD Cert.KvprepIdeal.τ).loc Cert.KvprepIdeal.main_arg5)) (m ((c.tc : Thread Cert.KvprepIdeal.nD Cert.KvprepIdeal.τ).loc Cert.KvprepIdeal.main_arg6)) (m ((c.tc : Thread Cert.KvprepIdeal.nD Cert.KvprepIdeal.τ).loc Cert.KvprepIdeal.main_arg7)) (m ((c.tc : Thread Cert.KvprepIdeal.nD Cert.KvprepIdeal.τ).loc Cert.KvprepIdeal.main_arg8)) (m ((c.tc : Thread Cert.KvprepIdeal.nD Cert.KvprepIdeal.τ).loc Cert.KvprepIdeal.main_arg9)) (m ((c.tc : Thread Cert.KvprepIdeal.nD Cert.KvprepIdeal.τ).loc Cert.KvprepIdeal.main_arg10)) (m ((c.tc : Thread Cert.KvprepIdeal.nD Cert.KvprepIdeal.τ).loc Cert.KvprepIdeal.main_arg11))).2 i = 1#1 → r.2.mem ((c.tc : Thread Cert.KvprepRefIdeal.nD Cert.KvprepRefIdeal.τ).loc Cert.KvprepRefIdeal.main_v72) i = v1 c i)
          ∧ r.2.mem ((c.tc : Thread Cert.KvprepRefIdeal.nD Cert.KvprepRefIdeal.τ).loc Cert.KvprepRefIdeal.main_arg0) = m' ((c.tc : Thread Cert.KvprepRefIdeal.nD Cert.KvprepRefIdeal.τ).loc Cert.KvprepRefIdeal.main_arg0)
          ∧ r.2.mem ((c.tc : Thread Cert.KvprepRefIdeal.nD Cert.KvprepRefIdeal.τ).loc Cert.KvprepRefIdeal.main_arg1) = m' ((c.tc : Thread Cert.KvprepRefIdeal.nD Cert.KvprepRefIdeal.τ).loc Cert.KvprepRefIdeal.main_arg1)
          ∧ r.2.mem ((c.tc : Thread Cert.KvprepRefIdeal.nD Cert.KvprepRefIdeal.τ).loc Cert.KvprepRefIdeal.main_arg2) = m' ((c.tc : Thread Cert.KvprepRefIdeal.nD Cert.KvprepRefIdeal.τ).loc Cert.KvprepRefIdeal.main_arg2)
          ∧ r.2.mem ((c.tc : Thread Cert.KvprepRefIdeal.nD Cert.KvprepRefIdeal.τ).loc Cert.KvprepRefIdeal.main_arg3) = m' ((c.tc : Thread Cert.KvprepRefIdeal.nD Cert.KvprepRefIdeal.τ).loc Cert.KvprepRefIdeal.main_arg3)
          ∧ r.2.mem ((c.tc : Thread Cert.KvprepRefIdeal.nD Cert.KvprepRefIdeal.τ).loc Cert.KvprepRefIdeal.main_arg4) = m' ((c.tc : Thread Cert.KvprepRefIdeal.nD Cert.KvprepRefIdeal.τ).loc Cert.KvprepRefIdeal.main_arg4)
          ∧ r.2.mem ((c.tc : Thread Cert.KvprepRefIdeal.nD Cert.KvprepRefIdeal.τ).loc Cert.KvprepRefIdeal.main_arg5) = m' ((c.tc : Thread Cert.KvprepRefIdeal.nD Cert.KvprepRefIdeal.τ).loc Cert.KvprepRefIdeal.main_arg5)
          ∧ r.2.mem ((c.tc : Thread Cert.KvprepRefIdeal.nD Cert.KvprepRefIdeal.τ).loc Cert.KvprepRefIdeal.main_arg6) = m' ((c.tc : Thread Cert.KvprepRefIdeal.nD Cert.KvprepRefIdeal.τ).loc Cert.KvprepRefIdeal.main_arg6)
          ∧ r.2.mem ((c.tc : Thread Cert.KvprepRefIdeal.nD Cert.KvprepRefIdeal.τ).loc Cert.KvprepRefIdeal.main_arg7) = m' ((c.tc : Thread Cert.KvprepRefIdeal.nD Cert.KvprepRefIdeal.τ).loc Cert.KvprepRefIdeal.main_arg7)
          ∧ r.2.mem ((c.tc : Thread Cert.KvprepRefIdeal.nD Cert.KvprepRefIdeal.τ).loc Cert.KvprepRefIdeal.main_arg8) = m' ((c.tc : Thread Cert.KvprepRefIdeal.nD Cert.KvprepRefIdeal.τ).loc Cert.KvprepRefIdeal.main_arg8)
          ∧ r.2.mem ((c.tc : Thread Cert.KvprepRefIdeal.nD Cert.KvprepRefIdeal.τ).loc Cert.KvprepRefIdeal.main_arg9) = m' ((c.tc : Thread Cert.KvprepRefIdeal.nD Cert.KvprepRefIdeal.τ).loc Cert.KvprepRefIdeal.main_arg9)
          ∧ r.2.mem ((c.tc : Thread Cert.KvprepRefIdeal.nD Cert.KvprepRefIdeal.τ).loc Cert.KvprepRefIdeal.main_arg10) = m' ((c.tc : Thread Cert.KvprepRefIdeal.nD Cert.KvprepRefIdeal.τ).loc Cert.KvprepRefIdeal.main_arg10)
          ∧ r.2.mem ((c.tc : Thread Cert.KvprepRefIdeal.nD Cert.KvprepRefIdeal.τ).loc Cert.KvprepRefIdeal.main_arg11) = m' ((c.tc : Thread Cert.KvprepRefIdeal.nD Cert.KvprepRefIdeal.τ).loc Cert.KvprepRefIdeal.main_arg11))

def Claim : Prop :=
  ∃ (hGla : Cert.Gla.Facts) (hGlaIdeal : Cert.GlaIdeal.Facts) (hGlaRefIdeal : Cert.GlaRefIdeal.Facts) (hMoe : Cert.Moe.Facts) (hMoeIdeal : Cert.MoeIdeal.Facts) (hMoeRefIdeal : Cert.MoeRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hKvprep : Cert.Kvprep.Facts) (hKvprepIdeal : Cert.KvprepIdeal.Facts) (hKvprepRefIdeal : Cert.KvprepRefIdeal.Facts) (hPre_experts_named : Cert.Pre_experts_named.Facts) (hOn_blocks_inside : Cert.On_blocks_inside.Facts),
    quiescent_Gla (hGla := hGla)
    ∧ quiescent_GlaIdeal (hGlaIdeal := hGlaIdeal)
    ∧ quiescent_GlaRefIdeal (hGlaRefIdeal := hGlaRefIdeal)
    ∧ quiescent_Moe (hMoe := hMoe) (hPre_experts_named := hPre_experts_named)
    ∧ quiescent_MoeIdeal (hMoeIdeal := hMoeIdeal) (hPre_experts_named := hPre_experts_named)
    ∧ quiescent_MoeRefIdeal (hMoeRefIdeal := hMoeRefIdeal)
    ∧ quiescent_MoeRefIdeal_pre_experts_named (hMoeRefIdeal := hMoeRefIdeal) (hPre_experts_named := hPre_experts_named)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Kvprep (hKvprep := hKvprep)
    ∧ quiescent_KvprepIdeal (hKvprepIdeal := hKvprepIdeal)
    ∧ quiescent_KvprepRefIdeal (hKvprepRefIdeal := hKvprepRefIdeal)
    ∧ preserves_Gla_GlaIdeal
    ∧ algebraic_GlaIdeal_GlaRefIdeal (hGlaIdeal := hGlaIdeal) (hGlaRefIdeal := hGlaRefIdeal)
    ∧ preserves_Moe_MoeIdeal
    ∧ algebraic_MoeIdeal_MoeRefIdeal (hMoeIdeal := hMoeIdeal) (hMoeRefIdeal := hMoeRefIdeal) (hPre_experts_named := hPre_experts_named)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Kvprep_KvprepIdeal
    ∧ algebraic_KvprepIdeal_KvprepRefIdeal_on_blocks_inside (hKvprepIdeal := hKvprepIdeal) (hKvprepRefIdeal := hKvprepRefIdeal) (hOn_blocks_inside := hOn_blocks_inside)
-- ==== On_blocks_inside.lean ====
abbrev S16x2048x128 : Shape := ⟨3, ![16, 2048, 128]⟩
abbrev S16x2048 : Shape := ⟨2, ![16, 2048]⟩
abbrev S3x64 : Shape := ⟨2, ![3, 64]⟩
abbrev S32x64 : Shape := ⟨2, ![32, 64]⟩
abbrev S2048x256 : Shape := ⟨2, ![2048, 256]⟩
abbrev S256x64 : Shape := ⟨2, ![256, 64]⟩
abbrev S16x2x128x64 : Shape := ⟨4, ![16, 2, 128, 64]⟩
abbrev S_ : Shape := ⟨0, ![]⟩

class Facts : Prop where
  bcast_S_S16x2x128x64 : S_.BroadcastsInDim S16x2x128x64 (![] : Fin 0 → Fin S16x2x128x64.rank)

variable [Facts]

def fn {F : FTy → Type} [FloatOps F] (main_arg0 : FVec F S16x2048x128 .bf16) (main_arg1 : FVec F S16x2048x128 .bf16) (main_arg2 : FVec F S16x2048x128 .bf16) (main_arg3 : FVec F S16x2048x128 .bf16) (main_arg4 : IVec S16x2048 32) (main_arg5 : FVec F S3x64 .f32) (main_arg6 : FVec F S32x64 .f32) (main_arg7 : FVec F S2048x256 .f32) (main_arg8 : FVec F S256x64 .f32) (main_arg9 : FVec F S32x64 .f32) (main_arg10 : FVec F S2048x256 .f32) (main_arg11 : FVec F S256x64 .f32) : IVec S16x2x128x64 1 × IVec S16x2x128x64 1 :=
  let main_v0 : IVec S16x2x128x64 32 := iotaInDim S16x2x128x64 32 2
  let main_c : IVec S_ 32 := constantI S_ 32 127#32
  let main_v1 : IVec S16x2x128x64 32 := broadcastInDim S16x2x128x64 ![] bcast_S_S16x2x128x64 main_c
  let main_v2 : IVec S16x2x128x64 1 := cmpi .slt main_v0 main_v1
  let main_c_0 : IVec S_ 32 := constantI S_ 32 127#32
  let main_v3 : IVec S16x2x128x64 32 := broadcastInDim S16x2x128x64 ![] bcast_S_S16x2x128x64 main_c_0
  let main_v4 : IVec S16x2x128x64 1 := cmpi .slt main_v0 main_v3
  (main_v2, main_v4)
-- ==== Pre_experts_named.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S139264 : Shape := ⟨1, ![139264]⟩
abbrev S_ : Shape := ⟨0, ![]⟩

class Facts : Prop where
  bcast_S_S544 : S_.BroadcastsInDim S544 (![] : Fin 0 → Fin S544.rank)

variable [Facts]

def fn {F : FTy → Type} [FloatOps F] (main_arg0 : IVec S544 32) (main_arg1 : IVec S1 32) (main_arg2 : FVec F S139264x1024 .bf16) (main_arg3 : FVec F S32x1024x2048 .f32) (main_arg4 : FVec F S32x2048 .f32) (main_arg5 : FVec F S32x1024x1024 .f32) (main_arg6 : FVec F S32x1024 .f32) (main_arg7 : FVec F S139264 .f32) : IVec S544 1 :=
  let main_c : IVec S_ 32 := constantI S_ 32 0#32
  let main_v0 : IVec S544 32 := broadcastInDim S544 ![] bcast_S_S544 main_c
  let main_v1 : IVec S544 1 := cmpi .sge main_arg0 main_v0
  let main_c_0 : IVec S_ 32 := constantI S_ 32 31#32
  let main_v2 : IVec S544 32 := broadcastInDim S544 ![] bcast_S_S544 main_c_0
  let main_v3 : IVec S544 1 := cmpi .sle main_arg0 main_v2
  let main_v4 : IVec S544 1 := andi main_v1 main_v3
  main_v4
-- ==== Gla.lean ====
abbrev S16x2048x256 : Shape := ⟨3, ![16, 2048, 256]⟩
abbrev S16x2048x512 : Shape := ⟨3, ![16, 2048, 512]⟩
abbrev S16x2048x16 : Shape := ⟨3, ![16, 2048, 16]⟩
abbrev S16x256 : Shape := ⟨2, ![16, 256]⟩
abbrev S256 : Shape := ⟨1, ![256]⟩
abbrev S128 : Shape := ⟨1, ![128]⟩
abbrev S16x2048x4x64 : Shape := ⟨4, ![16, 2048, 4, 64]⟩
abbrev S16x4x2048x64 : Shape := ⟨4, ![16, 4, 2048, 64]⟩
abbrev S16x2048x4x128 : Shape := ⟨4, ![16, 2048, 4, 128]⟩
abbrev S16x4x2048x128 : Shape := ⟨4, ![16, 4, 2048, 128]⟩
abbrev S16x4x64 : Shape := ⟨3, ![16, 4, 64]⟩
abbrev S4x16x64 : Shape := ⟨3, ![4, 16, 64]⟩
abbrev S4x1x64 : Shape := ⟨3, ![4, 1, 64]⟩
abbrev S1x128 : Shape := ⟨2, ![1, 128]⟩
abbrev S1x1x2048x64 : Shape := ⟨4, ![1, 1, 2048, 64]⟩
abbrev S1x1x2048x128 : Shape := ⟨4, ![1, 1, 2048, 128]⟩
abbrev S1x2048x16 : Shape := ⟨3, ![1, 2048, 16]⟩
abbrev S1x16x64 : Shape := ⟨3, ![1, 16, 64]⟩
abbrev S1x1x64 : Shape := ⟨3, ![1, 1, 64]⟩
abbrev S64x64 : Shape := ⟨2, ![64, 64]⟩
abbrev S16x64 : Shape := ⟨2, ![16, 64]⟩
abbrev S1x64 : Shape := ⟨2, ![1, 64]⟩
abbrev S128x64 : Shape := ⟨2, ![128, 64]⟩
abbrev S1x64x16 : Shape := ⟨3, ![1, 64, 16]⟩
abbrev S64x16 : Shape := ⟨2, ![64, 16]⟩
abbrev S1x1x64x64 : Shape := ⟨4, ![1, 1, 64, 64]⟩
abbrev S1x1x64x128 : Shape := ⟨4, ![1, 1, 64, 128]⟩
abbrev S64x128 : Shape := ⟨2, ![64, 128]⟩
abbrev S64 : Shape := ⟨1, ![64]⟩
abbrev S64x1 : Shape := ⟨2, ![64, 1]⟩

abbrev nBuf : Space → Nat
  | .hbm => 21
  | .vmem => 17
  | .smem => 0
  | _ => 0

abbrev bufTy : (tb : Table) → Fin (tcTables nBuf tb) → BufTy
  | .hbm, ⟨0, _⟩ => ⟨S16x2048x256, .bf16⟩
  | .hbm, ⟨1, _⟩ => ⟨S16x2048x256, .bf16⟩
  | .hbm, ⟨2, _⟩ => ⟨S16x2048x512, .bf16⟩
  | .hbm, ⟨3, _⟩ => ⟨S16x2048x16, .f32⟩
  | .hbm, ⟨4, _⟩ => ⟨S16x2048x512, .bf16⟩
  | .hbm, ⟨5, _⟩ => ⟨S16x256, .f32⟩
  | .hbm, ⟨6, _⟩ => ⟨S256, .f32⟩
  | .hbm, ⟨7, _⟩ => ⟨S128, .f32⟩
  | .hbm, ⟨8, _⟩ => ⟨S16x2048x4x64, .bf16⟩
  | .hbm, ⟨9, _⟩ => ⟨S16x4x2048x64, .bf16⟩
  | .hbm, ⟨10, _⟩ => ⟨S16x2048x4x64, .bf16⟩
  | .hbm, ⟨11, _⟩ => ⟨S16x4x2048x64, .bf16⟩
  | .hbm, ⟨12, _⟩ => ⟨S16x2048x4x128, .bf16⟩
  | .hbm, ⟨13, _⟩ => ⟨S16x4x2048x128, .bf16⟩
  | .hbm, ⟨14, _⟩ => ⟨S16x4x64, .f32⟩
  | .hbm, ⟨15, _⟩ => ⟨S4x16x64, .f32⟩
  | .hbm, ⟨16, _⟩ => ⟨S4x1x64, .f32⟩
  | .hbm, ⟨17, _⟩ => ⟨S16x2048x4x128, .bf16⟩
  | .hbm, ⟨18, _⟩ => ⟨S16x4x2048x128, .bf16⟩
  | .hbm, ⟨19, _⟩ => ⟨S1x128, .f32⟩
  | .hbm, ⟨20, _⟩ => ⟨S16x4x2048x128, .bf16⟩
  | .local _ .vmem, ⟨0, _⟩ => ⟨S1x1x2048x64, .bf16⟩
  | .local _ .vmem, ⟨1, _⟩ => ⟨S1x1x2048x64, .bf16⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x2048x16, .f32⟩
  | .local _ .vmem, ⟨7, _⟩ => ⟨S1x2048x16, .f32⟩
  | .local _ .vmem, ⟨8, _⟩ => ⟨S1x16x64, .f32⟩
  | .local _ .vmem, ⟨9, _⟩ => ⟨S1x16x64, .f32⟩
  | .local _ .vmem, ⟨10, _⟩ => ⟨S1x1x64, .f32⟩
  | .local _ .vmem, ⟨11, _⟩ => ⟨S1x1x64, .f32⟩
  | .local _ .vmem, ⟨12, _⟩ => ⟨S1x1x2048x128, .bf16⟩
  | .local _ .vmem, ⟨13, _⟩ => ⟨S1x1x2048x128, .bf16⟩
  | .local _ .vmem, ⟨14, _⟩ => ⟨S1x128, .f32⟩
  | .local _ .vmem, ⟨15, _⟩ => ⟨S1x1x2048x128, .bf16⟩
  | .local _ .vmem, ⟨16, _⟩ => ⟨S1x1x2048x128, .bf16⟩
  | _, _ => ⟨S16x2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 4], ![false, false]⟩

@[reducible] def k0_t1_loop : Scf.Loop 32 :=
  let c0_i32 : BitVec 32 := 0#32
  let c32_i32 : BitVec 32 := 32#32
  let v13 : BitVec 32 := Scalar.addi c0_i32 c32_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c64_i32 : BitVec 32 := 64#32
  let v15 : BitVec 32 := Scalar.muli arg11 c64_i32
  v15
def k0_off1 (k0_t1 : Fin k0_t1_loop.trips) : Fin 3 → Nat :=
  let c0_10 : Index := 0#32
  let c0_i32 : BitVec 32 := 0#32
  let c1_i32 : BitVec 32 := 1#32
  let arg11 : BitVec 32 := Scf.iv c0_i32 c1_i32 k0_t1
  let c64_i32 : BitVec 32 := 64#32
  let v15 : BitVec 32 := Scalar.muli arg11 c64_i32
  let v16 : BitVec 32 := v15
  let v17 : Index := Scalar.indexCast v16
  let c0_11 : Index := 0#32
  ![0, v17.toNat, 0]
def k0_off2 (k0_t1 : Fin k0_t1_loop.trips) : Fin 4 → Nat :=
  let c0_20 : Index := 0#32
  let c0_21 : Index := 0#32
  let c0_i32 : BitVec 32 := 0#32
  let c1_i32 : BitVec 32 := 1#32
  let arg11 : BitVec 32 := Scf.iv c0_i32 c1_i32 k0_t1
  let c64_i32 : BitVec 32 := 64#32
  let v15 : BitVec 32 := Scalar.muli arg11 c64_i32
  let v16 : BitVec 32 := v15
  let v41 : Index := Scalar.indexCast v16
  let c0_22 : Index := 0#32
  ![0, 0, v41.toNat, 0]
def k0_off3 (k0_t1 : Fin k0_t1_loop.trips) : Fin 4 → Nat :=
  let c0_27 : Index := 0#32
  let c0_28 : Index := 0#32
  let c0_i32 : BitVec 32 := 0#32
  let c1_i32 : BitVec 32 := 1#32
  let arg11 : BitVec 32 := Scf.iv c0_i32 c1_i32 k0_t1
  let c64_i32 : BitVec 32 := 64#32
  let v15 : BitVec 32 := Scalar.muli arg11 c64_i32
  let v16 : BitVec 32 := v15
  let v51 : Index := Scalar.indexCast v16
  let c0_29 : Index := 0#32
  ![0, 0, v51.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GlaRefIdeal.lean ====
abbrev S16x2048x256 : Shape := ⟨3, ![16, 2048, 256]⟩
abbrev S16x2048x512 : Shape := ⟨3, ![16, 2048, 512]⟩
abbrev S16x2048x16 : Shape := ⟨3, ![16, 2048, 16]⟩
abbrev S16x256 : Shape := ⟨2, ![16, 256]⟩
abbrev S256 : Shape := ⟨1, ![256]⟩
abbrev S128 : Shape := ⟨1, ![128]⟩
abbrev S1x1x256 : Shape := ⟨3, ![1, 1, 256]⟩
abbrev S_ : Shape := ⟨0, ![]⟩
abbrev S16x32x64x4x64 : Shape := ⟨5, ![16, 32, 64, 4, 64]⟩
abbrev S16x4x32x64x64 : Shape := ⟨5, ![16, 4, 32, 64, 64]⟩
abbrev S16x32x64x4x128 : Shape := ⟨5, ![16, 32, 64, 4, 128]⟩
abbrev S16x4x32x64x128 : Shape := ⟨5, ![16, 4, 32, 64, 128]⟩
abbrev S16x4x32x1x64 : Shape := ⟨5, ![16, 4, 32, 1, 64]⟩
abbrev S64x64 : Shape := ⟨2, ![64, 64]⟩
abbrev S16x4x32x64 : Shape := ⟨4, ![16, 4, 32, 64]⟩
abbrev S16x4x64x128 : Shape := ⟨4, ![16, 4, 64, 128]⟩
abbrev S32x16x4x64 : Shape := ⟨4, ![32, 16, 4, 64]⟩
abbrev S32x16x4x64x128 : Shape := ⟨5, ![32, 16, 4, 64, 128]⟩
abbrev S32x16x4x64x64 : Shape := ⟨5, ![32, 16, 4, 64, 64]⟩
abbrev S1x16x4x64 : Shape := ⟨4, ![1, 16, 4, 64]⟩
abbrev S16x4x64 : Shape := ⟨3, ![16, 4, 64]⟩
abbrev S1x16x4x64x128 : Shape := ⟨5, ![1, 16, 4, 64, 128]⟩
abbrev S1x16x4x64x64 : Shape := ⟨5, ![1, 16, 4, 64, 64]⟩
abbrev S16x4x64x64 : Shape := ⟨4, ![16, 4, 64, 64]⟩
abbrev S16x4x64x1 : Shape := ⟨4, ![16, 4, 64, 1]⟩
abbrev S16x2048x4x128 : Shape := ⟨4, ![16, 2048, 4, 128]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x4x2048x128 : Shape := ⟨4, ![16, 4, 2048, 128]⟩

abbrev nBuf : Space → Nat
  | .hbm => 166
  | .vmem => 0
  | .smem => 0
  | _ => 0

abbrev hbmTy0_0 (i : Nat) : BufTy := match i % 128 with
  | 0 => ⟨S16x2048x256, .bf16⟩
  | 1 => ⟨S16x2048x256, .bf16⟩
  | 2 => ⟨S16x2048x512, .bf16⟩
  | 3 => ⟨S16x2048x16, .f32⟩
  | 4 => ⟨S16x2048x512, .bf16⟩
  | 5 => ⟨S16x256, .f32⟩
  | 6 => ⟨S256, .f32⟩
  | 7 => ⟨S128, .f32⟩
  | 8 => ⟨S16x2048x256, .f32⟩
  | 9 => ⟨S16x2048x256, .f32⟩
  | 10 => ⟨S16x2048x512, .f32⟩
  | 11 => ⟨S16x2048x256, .f32⟩
  | 12 => ⟨S1x1x256, .f32⟩
  | 13 => ⟨S16x2048x256, .f32⟩
  | 14 => ⟨S16x2048x256, .f32⟩
  | 15 => ⟨S16x2048x256, .f32⟩
  | 16 => ⟨S_, .f32⟩
  | 17 => ⟨S16x2048x256, .f32⟩
  | 18 => ⟨S16x2048x256, .f32⟩
  | 19 => ⟨S16x2048x256, .f32⟩
  | 20 => ⟨S16x2048x256, .f32⟩
  | 21 => ⟨S16x2048x256, .i1⟩
  | 22 => ⟨S16x2048x256, .f32⟩
  | 23 => ⟨S16x2048x256, .f32⟩
  | 24 => ⟨S16x2048x256, .f32⟩
  | 25 => ⟨S16x2048x256, .f32⟩
  | 26 => ⟨S16x2048x256, .f32⟩
  | 27 => ⟨S16x2048x256, .f32⟩
  | 28 => ⟨S16x2048x256, .f32⟩
  | 29 => ⟨S16x2048x256, .f32⟩
  | 30 => ⟨S16x2048x256, .f32⟩
  | 31 => ⟨S_, .f32⟩
  | 32 => ⟨S16x2048x256, .f32⟩
  | 33 => ⟨S16x2048x256, .f32⟩
  | 34 => ⟨S16x32x64x4x64, .f32⟩
  | 35 => ⟨S16x4x32x64x64, .f32⟩
  | 36 => ⟨S_, .f32⟩
  | 37 => ⟨S16x4x32x64x64, .f32⟩
  | 38 => ⟨S16x4x32x64x64, .f32⟩
  | 39 => ⟨S16x32x64x4x64, .f32⟩
  | 40 => ⟨S16x4x32x64x64, .f32⟩
  | 41 => ⟨S16x32x64x4x128, .f32⟩
  | 42 => ⟨S16x4x32x64x128, .f32⟩
  | 43 => ⟨S16x32x64x4x64, .f32⟩
  | 44 => ⟨S16x4x32x64x64, .f32⟩
  | 45 => ⟨S_, .f32⟩
  | 46 => ⟨S_, .f32⟩
  | 47 => ⟨S16x4x32x64x64, .f32⟩
  | 48 => ⟨S16x4x32x1x64, .f32⟩
  | 49 => ⟨S16x4x32x64x64, .f32⟩
  | 50 => ⟨S16x4x32x64x64, .f32⟩
  | 51 => ⟨S16x4x32x64x64, .f32⟩
  | 52 => ⟨S16x4x32x64x64, .f32⟩
  | 53 => ⟨S16x4x32x64x64, .f32⟩
  | 54 => ⟨S16x4x32x64x64, .f32⟩
  | 55 => ⟨S16x4x32x64x64, .f32⟩
  | 56 => ⟨S16x4x32x64x64, .f32⟩
  | 57 => ⟨S16x4x32x64x64, .f32⟩
  | 58 => ⟨S_, .i1⟩
  | 59 => ⟨S64x64, .i1⟩
  | 60 => ⟨S64x64, .i32⟩
  | 61 => ⟨S_, .i32⟩
  | 62 => ⟨S64x64, .i32⟩
  | 63 => ⟨S64x64, .i32⟩
  | 64 => ⟨S64x64, .i32⟩
  | 65 => ⟨S64x64, .i1⟩
  | 66 => ⟨S_, .i1⟩
  | 67 => ⟨S64x64, .i1⟩
  | 68 => ⟨S64x64, .i1⟩
  | 69 => ⟨S16x4x32x64x64, .f32⟩
  | 70 => ⟨S_, .f32⟩
  | 71 => ⟨S_, .f32⟩
  | 72 => ⟨S16x4x32x64x64, .i1⟩
  | 73 => ⟨S16x4x32x64x64, .f32⟩
  | 74 => ⟨S16x4x32x64x64, .f32⟩
  | 75 => ⟨S16x4x32x64x128, .f32⟩
  | 76 => ⟨S16x4x32x64x128, .f32⟩
  | 77 => ⟨S16x4x32x64, .f32⟩
  | 78 => ⟨S16x4x32x64, .f32⟩
  | 79 => ⟨S_, .f32⟩
  | 80 => ⟨S16x4x64x128, .f32⟩
  | 81 => ⟨S32x16x4x64, .f32⟩
  | 82 => ⟨S32x16x4x64x128, .f32⟩
  | 83 => ⟨S32x16x4x64x64, .f32⟩
  | 84 => ⟨S32x16x4x64x128, .f32⟩
  | 85 => ⟨S_, .f32⟩
  | 86 => ⟨S32x16x4x64x128, .f32⟩
  | 87 => ⟨S_, .i32⟩
  | 88 => ⟨S32x16x4x64, .f32⟩
  | 89 => ⟨S32x16x4x64x128, .f32⟩
  | 90 => ⟨S32x16x4x64x64, .f32⟩
  | 91 => ⟨S32x16x4x64x128, .f32⟩
  | 92 => ⟨S_, .i32⟩
  | 93 => ⟨S16x4x64x128, .f32⟩
  | 94 => ⟨S32x16x4x64x128, .f32⟩
  | 95 => ⟨S_, .i32⟩
  | 96 => ⟨S_, .i1⟩
  | 97 => ⟨S_, .i32⟩
  | 98 => ⟨S_, .i32⟩
  | 99 => ⟨S_, .i32⟩
  | 100 => ⟨S1x16x4x64, .f32⟩
  | 101 => ⟨S16x4x64, .f32⟩
  | 102 => ⟨S_, .i32⟩
  | 103 => ⟨S_, .i32⟩
  | 104 => ⟨S_, .i32⟩
  | 105 => ⟨S_, .i32⟩
  | 106 => ⟨S1x16x4x64x128, .f32⟩
  | 107 => ⟨S16x4x64x128, .f32⟩
  | 108 => ⟨S_, .i32⟩
  | 109 => ⟨S_, .i32⟩
  | 110 => ⟨S_, .i32⟩
  | 111 => ⟨S_, .i32⟩
  | 112 => ⟨S1x16x4x64x64, .f32⟩
  | 113 => ⟨S16x4x64x64, .f32⟩
  | 114 => ⟨S_, .i32⟩
  | 115 => ⟨S_, .i32⟩
  | 116 => ⟨S_, .i32⟩
  | 117 => ⟨S_, .i32⟩
  | 118 => ⟨S1x16x4x64x128, .f32⟩
  | 119 => ⟨S16x4x64x128, .f32⟩
  | 120 => ⟨S16x4x64x1, .f32⟩
  | 121 => ⟨S16x4x64x128, .f32⟩
  | 122 => ⟨S16x4x64x128, .f32⟩
  | 123 => ⟨S16x4x64x128, .f32⟩
  | 124 => ⟨S16x4x64x128, .f32⟩
  | 125 => ⟨S16x4x64x128, .f32⟩
  | 126 => ⟨S1x16x4x64x128, .f32⟩
  | 127 => ⟨S_, .i32⟩
  | _ => ⟨S16x2048x256, .bf16⟩

abbrev hbmTy0_1 (i : Nat) : BufTy := match i % 128 with
  | 0 => ⟨S_, .i32⟩
  | 1 => ⟨S_, .i32⟩
  | 2 => ⟨S_, .i32⟩
  | 3 => ⟨S32x16x4x64x128, .f32⟩
  | 4 => ⟨S_, .i32⟩
  | 5 => ⟨S_, .i32⟩
  | 6 => ⟨S16x32x64x4x128, .f32⟩
  | 7 => ⟨S16x2048x4x128, .f32⟩
  | 8 => ⟨S16x2048x4x128, .f32⟩
  | 9 => ⟨S_, .f32⟩
  | 10 => ⟨S16x2048x4, .f32⟩
  | 11 => ⟨S16x2048x4x1, .f32⟩
  | 12 => ⟨S_, .f32⟩
  | 13 => ⟨S16x2048x4x1, .f32⟩
  | 14 => ⟨S16x2048x4x1, .f32⟩
  | 15 => ⟨S_, .f32⟩
  | 16 => ⟨S16x2048x4x1, .f32⟩
  | 17 => ⟨S16x2048x4x1, .f32⟩
  | 18 => ⟨S16x2048x4x1, .f32⟩
  | 19 => ⟨S16x2048x4x128, .f32⟩
  | 20 => ⟨S16x2048x4x128, .f32⟩
  | 21 => ⟨S1x1x1x128, .f32⟩
  | 22 => ⟨S16x2048x4x128, .f32⟩
  | 23 => ⟨S16x2048x4x128, .f32⟩
  | 24 => ⟨S16x2048x512, .f32⟩
  | 25 => ⟨S16x2048x4x128, .f32⟩
  | 26 => ⟨S16x2048x4x128, .f32⟩
  | 27 => ⟨S16x2048x4x128, .f32⟩
  | 28 => ⟨S_, .f32⟩
  | 29 => ⟨S16x2048x4x128, .f32⟩
  | 30 => ⟨S16x2048x4x128, .f32⟩
  | 31 => ⟨S_, .f32⟩
  | 32 => ⟨S16x2048x4x128, .f32⟩
  | 33 => ⟨S16x2048x4x128, .f32⟩
  | 34 => ⟨S16x2048x4x128, .f32⟩
  | 35 => ⟨S16x2048x4x128, .f32⟩
  | 36 => ⟨S16x4x2048x128, .f32⟩
  | 37 => ⟨S16x4x2048x128, .bf16⟩
  | _ => ⟨S16x2048x256, .bf16⟩

abbrev hbmTy (i : Nat) : BufTy := match i / 128 with
  | 0 => hbmTy0_0 i
  | 1 => hbmTy0_1 i
  | _ => ⟨S16x2048x256, .bf16⟩

abbrev bufTy : (tb : Table) → Fin (tcTables nBuf tb) → BufTy
  | .hbm, ⟨i, _⟩ => hbmTy i
  | _, _ => ⟨S16x2048x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_call0_cst : Ref sig .tc := ⟨.hbm, 45, rfl⟩
abbrev main_call0_call0_v0 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c : Ref sig .tc := ⟨.hbm, 58, rfl⟩
abbrev main_v45 : Ref sig .tc := ⟨.hbm, 59, rfl⟩
abbrev main_call1_v0 : Ref sig .tc := ⟨.hbm, 60, rfl⟩
abbrev main_call1_c : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_c_0 : Ref sig .tc := ⟨.hbm, 66, rfl⟩
abbrev main_call1_v5 : Ref sig .tc := ⟨.hbm, 67, rfl⟩
abbrev main_v46 : Ref sig .tc := ⟨.hbm, 68, rfl⟩
abbrev main_v47 : Ref sig .tc := ⟨.hbm, 69, rfl⟩
abbrev main_cst_2 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_3 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_4 : Ref sig .tc := ⟨.hbm, 85, rfl⟩
abbrev main_v58 : Ref sig .tc := ⟨.hbm, 86, rfl⟩
abbrev main_c_5 : Ref sig .tc := ⟨.hbm, 87, rfl⟩
abbrev main_v59_0 : Ref sig .tc := ⟨.hbm, 88, rfl⟩
abbrev main_v59_1 : Ref sig .tc := ⟨.hbm, 89, rfl⟩
abbrev main_v59_2 : Ref sig .tc := ⟨.hbm, 90, rfl⟩
abbrev main_v59_3 : Ref sig .tc := ⟨.hbm, 91, rfl⟩
abbrev main_v59_4 : Ref sig .tc := ⟨.hbm, 92, rfl⟩
abbrev main_v59_5 : Ref sig .tc := ⟨.hbm, 93, rfl⟩
abbrev main_v59_6 : Ref sig .tc := ⟨.hbm, 94, rfl⟩
abbrev main_while0c_c_15 : Ref sig .tc := ⟨.hbm, 95, rfl⟩
abbrev main_while0c_v81 : Ref sig .tc := ⟨.hbm, 96, rfl⟩
abbrev main_while0b_call3_c : Ref sig .tc := ⟨.hbm, 97, rfl⟩
abbrev main_while0b_call3_c_0 : Ref sig .tc := ⟨.hbm, 98, rfl⟩
abbrev main_while0b_call3_c_1 : Ref sig .tc := ⟨.hbm, 99, rfl⟩
abbrev main_while0b_call3_v0 : Ref sig .tc := ⟨.hbm, 100, rfl⟩
abbrev main_while0b_v81 : Ref sig .tc := ⟨.hbm, 101, rfl⟩
abbrev main_while0b_call4_c : Ref sig .tc := ⟨.hbm, 102, rfl⟩
abbrev main_while0b_call4_c_0 : Ref sig .tc := ⟨.hbm, 103, rfl⟩
abbrev main_while0b_call4_c_1 : Ref sig .tc := ⟨.hbm, 104, rfl⟩
abbrev main_while0b_call4_c_2 : Ref sig .tc := ⟨.hbm, 105, rfl⟩
abbrev main_while0b_call4_v0 : Ref sig .tc := ⟨.hbm, 106, rfl⟩
abbrev main_while0b_v82 : Ref sig .tc := ⟨.hbm, 107, rfl⟩
abbrev main_while0b_call5_c : Ref sig .tc := ⟨.hbm, 108, rfl⟩
abbrev main_while0b_call5_c_0 : Ref sig .tc := ⟨.hbm, 109, rfl⟩
abbrev main_while0b_call5_c_1 : Ref sig .tc := ⟨.hbm, 110, rfl⟩
abbrev main_while0b_call5_c_2 : Ref sig .tc := ⟨.hbm, 111, rfl⟩
abbrev main_while0b_call5_v0 : Ref sig .tc := ⟨.hbm, 112, rfl⟩
abbrev main_while0b_v83 : Ref sig .tc := ⟨.hbm, 113, rfl⟩
abbrev main_while0b_call6_c : Ref sig .tc := ⟨.hbm, 114, rfl⟩
abbrev main_while0b_call6_c_0 : Ref sig .tc := ⟨.hbm, 115, rfl⟩
abbrev main_while0b_call6_c_1 : Ref sig .tc := ⟨.hbm, 116, rfl⟩
abbrev main_while0b_call6_c_2 : Ref sig .tc := ⟨.hbm, 117, rfl⟩
abbrev main_while0b_call6_v0 : Ref sig .tc := ⟨.hbm, 118, rfl⟩
abbrev main_while0b_v84 : Ref sig .tc := ⟨.hbm, 119, rfl⟩
abbrev main_while0b_v85 : Ref sig .tc := ⟨.hbm, 120, rfl⟩
abbrev main_while0b_v86 : Ref sig .tc := ⟨.hbm, 121, rfl⟩
abbrev main_while0b_v87 : Ref sig .tc := ⟨.hbm, 122, rfl⟩
abbrev main_while0b_v88 : Ref sig .tc := ⟨.hbm, 123, rfl⟩
abbrev main_while0b_v89 : Ref sig .tc := ⟨.hbm, 124, rfl⟩
abbrev main_while0b_v90 : Ref sig .tc := ⟨.hbm, 125, rfl⟩
abbrev main_while0b_call7_v0 : Ref sig .tc := ⟨.hbm, 126, rfl⟩
abbrev main_while0b_call7_c : Ref sig .tc := ⟨.hbm, 127, rfl⟩
abbrev main_while0b_call7_c_0 : Ref sig .tc := ⟨.hbm, 128, rfl⟩
abbrev main_while0b_call7_c_1 : Ref sig .tc := ⟨.hbm, 129, rfl⟩
abbrev main_while0b_call7_c_2 : Ref sig .tc := ⟨.hbm, 130, rfl⟩
abbrev main_while0b_v91 : Ref sig .tc := ⟨.hbm, 131, rfl⟩
abbrev main_while0b_c_15 : Ref sig .tc := ⟨.hbm, 132, rfl⟩
abbrev main_while0b_v92 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_cst_6 : Ref sig .tc := ⟨.hbm, 137, rfl⟩
abbrev main_v63 : Ref sig .tc := ⟨.hbm, 138, rfl⟩
abbrev main_v64 : Ref sig .tc := ⟨.hbm, 139, rfl⟩
abbrev main_cst_7 : Ref sig .tc := ⟨.hbm, 140, rfl⟩
abbrev main_v65 : Ref sig .tc := ⟨.hbm, 141, rfl⟩
abbrev main_v66 : Ref sig .tc := ⟨.hbm, 142, rfl⟩
abbrev main_cst_8 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_call8_v0 : Ref sig .tc := ⟨.hbm, 154, rfl⟩
abbrev main_call8_v1 : Ref sig .tc := ⟨.hbm, 155, rfl⟩
abbrev main_call8_cst : Ref sig .tc := ⟨.hbm, 156, rfl⟩
abbrev main_call8_v2 : Ref sig .tc := ⟨.hbm, 157, rfl⟩
abbrev main_call8_v3 : Ref sig .tc := ⟨.hbm, 158, rfl⟩
abbrev main_call8_cst_0 : Ref sig .tc := ⟨.hbm, 159, rfl⟩
abbrev main_call8_v4 : Ref sig .tc := ⟨.hbm, 160, rfl⟩
abbrev main_call8_v5 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩

abbrev nD : Nat := 1
abbrev τ : Topo := Topo.v7x

variable {F : FTy → Type} [FloatOps F]

abbrev main_while0_count : Scf.Loop 32 := ⟨0#32, 32#32, 1#32⟩
-- ==== Moe.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S139264 : Shape := ⟨1, ![139264]⟩
abbrev S32x1x2048 : Shape := ⟨3, ![32, 1, 2048]⟩
abbrev S32x1x1024 : Shape := ⟨3, ![32, 1, 1024]⟩
abbrev S139264x1 : Shape := ⟨2, ![139264, 1]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S256x1 : Shape := ⟨2, ![256, 1]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 12
  | .vmem => 14
  | .smem => 2
  | _ => 0

abbrev bufTy : (tb : Table) → Fin (tcTables nBuf tb) → BufTy
  | .hbm, ⟨0, _⟩ => ⟨S139264x1024, .bf16⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S139264, .f32⟩
  | .hbm, ⟨6, _⟩ => ⟨S32x1024x2048, .bf16⟩
  | .hbm, ⟨7, _⟩ => ⟨S32x1x2048, .f32⟩
  | .hbm, ⟨8, _⟩ => ⟨S32x1024x1024, .bf16⟩
  | .hbm, ⟨9, _⟩ => ⟨S32x1x1024, .f32⟩
  | .hbm, ⟨10, _⟩ => ⟨S139264x1, .f32⟩
  | .hbm, ⟨11, _⟩ => ⟨S139264x1024, .bf16⟩
  | .local _ .vmem, ⟨0, _⟩ => ⟨S256x1024, .bf16⟩
  | .local _ .vmem, ⟨1, _⟩ => ⟨S256x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S256x1, .f32⟩
  | .local _ .vmem, ⟨11, _⟩ => ⟨S256x1, .f32⟩
  | .local _ .vmem, ⟨12, _⟩ => ⟨S256x1024, .bf16⟩
  | .local _ .vmem, ⟨13, _⟩ => ⟨S256x1024, .bf16⟩
  | .local _ .smem, ⟨0, _⟩ => ⟨S544, .i32⟩
  | .local _ .smem, ⟨1, _⟩ => ⟨S1, .i32⟩
  | _, _ => ⟨S139264x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![544], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S544.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S544) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MoeRefIdeal.lean ====
abbrev S544 : Shape := ⟨1, ![544]⟩
abbrev S1 : Shape := ⟨1, ![1]⟩
abbrev S139264x1024 : Shape := ⟨2, ![139264, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S139264 : Shape := ⟨1, ![139264]⟩
abbrev S544x256x1024 : Shape := ⟨3, ![544, 256, 1024]⟩
abbrev S_ : Shape := ⟨0, ![]⟩
abbrev S544x1 : Shape := ⟨2, ![544, 1]⟩
abbrev S544x1024x2048 : Shape := ⟨3, ![544, 1024, 2048]⟩
abbrev S544x256x2048 : Shape := ⟨3, ![544, 256, 2048]⟩
abbrev S544x2048 : Shape := ⟨2, ![544, 2048]⟩
abbrev S544x1x2048 : Shape := ⟨3, ![544, 1, 2048]⟩
abbrev S544x1024x1024 : Shape := ⟨3, ![544, 1024, 1024]⟩
abbrev S544x1024 : Shape := ⟨2, ![544, 1024]⟩
abbrev S544x1x1024 : Shape := ⟨3, ![544, 1, 1024]⟩
abbrev S544x256 : Shape := ⟨2, ![544, 256]⟩
abbrev S544x256x1 : Shape := ⟨3, ![544, 256, 1]⟩
abbrev S544x1x1 : Shape := ⟨3, ![544, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S544, .i32⟩
  | .hbm, ⟨1, _⟩ => ⟨S1, .i32⟩
  | .hbm, ⟨2, _⟩ => ⟨S139264x1024, .bf16⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S139264, .f32⟩
  | .hbm, ⟨8, _⟩ => ⟨S139264x1024, .f32⟩
  | .hbm, ⟨9, _⟩ => ⟨S544x256x1024, .f32⟩
  | .hbm, ⟨10, _⟩ => ⟨S_, .i32⟩
  | .hbm, ⟨11, _⟩ => ⟨S544, .i32⟩
  | .hbm, ⟨12, _⟩ => ⟨S544, .i1⟩
  | .hbm, ⟨13, _⟩ => ⟨S_, .i32⟩
  | .hbm, ⟨14, _⟩ => ⟨S544, .i32⟩
  | .hbm, ⟨15, _⟩ => ⟨S544, .i32⟩
  | .hbm, ⟨16, _⟩ => ⟨S544, .i32⟩
  | .hbm, ⟨17, _⟩ => ⟨S544x1, .i32⟩
  | .hbm, ⟨18, _⟩ => ⟨S544x1024x2048, .f32⟩
  | .hbm, ⟨19, _⟩ => ⟨S544x256x2048, .f32⟩
  | .hbm, ⟨20, _⟩ => ⟨S_, .i32⟩
  | .hbm, ⟨21, _⟩ => ⟨S544, .i32⟩
  | .hbm, ⟨22, _⟩ => ⟨S544, .i1⟩
  | .hbm, ⟨23, _⟩ => ⟨S_, .i32⟩
  | .hbm, ⟨24, _⟩ => ⟨S544, .i32⟩
  | .hbm, ⟨25, _⟩ => ⟨S544, .i32⟩
  | .hbm, ⟨26, _⟩ => ⟨S544, .i32⟩
  | .hbm, ⟨27, _⟩ => ⟨S544x1, .i32⟩
  | .hbm, ⟨28, _⟩ => ⟨S544x2048, .f32⟩
  | .hbm, ⟨29, _⟩ => ⟨S544x1x2048, .f32⟩
  | .hbm, ⟨30, _⟩ => ⟨S544x256x2048, .f32⟩
  | .hbm, ⟨31, _⟩ => ⟨S544x256x2048, .f32⟩
  | .hbm, ⟨32, _⟩ => ⟨S544x256x1024, .f32⟩
  | .hbm, ⟨33, _⟩ => ⟨S_, .f32⟩
  | .hbm, ⟨34, _⟩ => ⟨S544x256x1024, .f32⟩
  | .hbm, ⟨35, _⟩ => ⟨S544x256x1024, .f32⟩
  | .hbm, ⟨36, _⟩ => ⟨S544x256x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S544x256x1024, .f32⟩
  | .hbm, ⟨41, _⟩ => ⟨S544x256x1024, .f32⟩
  | .hbm, ⟨42, _⟩ => ⟨S_, .f32⟩
  | .hbm, ⟨43, _⟩ => ⟨S544x256x1024, .f32⟩
  | .hbm, ⟨44, _⟩ => ⟨S544x256x1024, .f32⟩
  | .hbm, ⟨45, _⟩ => ⟨S_, .f32⟩
  | .hbm, ⟨46, _⟩ => ⟨S544x256x1024, .f32⟩
  | .hbm, ⟨47, _⟩ => ⟨S544x256x1024, .f32⟩
  | .hbm, ⟨48, _⟩ => ⟨S544x256x1024, .f32⟩
  | .hbm, ⟨49, _⟩ => ⟨S544x256x1024, .f32⟩
  | .hbm, ⟨50, _⟩ => ⟨S_, .f32⟩
  | .hbm, ⟨51, _⟩ => ⟨S544x256x1024, .f32⟩
  | .hbm, ⟨52, _⟩ => ⟨S544x256x1024, .f32⟩
  | .hbm, ⟨53, _⟩ => ⟨S_, .f32⟩
  | .hbm, ⟨54, _⟩ => ⟨S544x256x1024, .f32⟩
  | .hbm, ⟨55, _⟩ => ⟨S544x256x1024, .f32⟩
  | .hbm, ⟨56, _⟩ => ⟨S544x256x1024, .f32⟩
  | .hbm, ⟨57, _⟩ => ⟨S_, .f32⟩
  | .hbm, ⟨58, _⟩ => ⟨S544x256x1024, .f32⟩
  | .hbm, ⟨59, _⟩ => ⟨S544x256x1024, .f32⟩
  | .hbm, ⟨60, _⟩ => ⟨S544x256x1024, .f32⟩
  | .hbm, ⟨61, _⟩ => ⟨S_, .i32⟩
  | .hbm, ⟨62, _⟩ => ⟨S544, .i32⟩
  | .hbm, ⟨63, _⟩ => ⟨S544, .i1⟩
  | .hbm, ⟨64, _⟩ => ⟨S_, .i32⟩
  | .hbm, ⟨65, _⟩ => ⟨S544, .i32⟩
  | .hbm, ⟨66, _⟩ => ⟨S544, .i32⟩
  | .hbm, ⟨67, _⟩ => ⟨S544, .i32⟩
  | .hbm, ⟨68, _⟩ => ⟨S544x1, .i32⟩
  | .hbm, ⟨69, _⟩ => ⟨S544x1024x1024, .f32⟩
  | .hbm, ⟨70, _⟩ => ⟨S544x256x1024, .f32⟩
  | .hbm, ⟨71, _⟩ => ⟨S_, .i32⟩
  | .hbm, ⟨72, _⟩ => ⟨S544, .i32⟩
  | .hbm, ⟨73, _⟩ => ⟨S544, .i1⟩
  | .hbm, ⟨74, _⟩ => ⟨S_, .i32⟩
  | .hbm, ⟨75, _⟩ => ⟨S544, .i32⟩
  | .hbm, ⟨76, _⟩ => ⟨S544, .i32⟩
  | .hbm, ⟨77, _⟩ => ⟨S544, .i32⟩
  | .hbm, ⟨78, _⟩ => ⟨S544x1, .i32⟩
  | .hbm, ⟨79, _⟩ => ⟨S544x1024, .f32⟩
  | .hbm, ⟨80, _⟩ => ⟨S544x1x1024, .f32⟩
  | .hbm, ⟨81, _⟩ => ⟨S544x256x1024, .f32⟩
  | .hbm, ⟨82, _⟩ => ⟨S544x256x1024, .f32⟩
  | .hbm, ⟨83, _⟩ => ⟨S544x256, .f32⟩
  | .hbm, ⟨84, _⟩ => ⟨S544x256x1, .f32⟩
  | .hbm, ⟨85, _⟩ => ⟨S544x256x1024, .f32⟩
  | .hbm, ⟨86, _⟩ => ⟨S544x256x1024, .f32⟩
  | .hbm, ⟨87, _⟩ => ⟨S544, .i32⟩
  | .hbm, ⟨88, _⟩ => ⟨S544, .i32⟩
  | .hbm, ⟨89, _⟩ => ⟨S544, .i1⟩
  | .hbm, ⟨90, _⟩ => ⟨S544x1x1, .i1⟩
  | .hbm, ⟨91, _⟩ => ⟨S_, .f32⟩
  | .hbm, ⟨92, _⟩ => ⟨S_, .f32⟩
  | .hbm, ⟨93, _⟩ => ⟨S544x256x1024, .i1⟩
  | .hbm, ⟨94, _⟩ => ⟨S544x256x1024, .f32⟩
  | .hbm, ⟨95, _⟩ => ⟨S544x256x1024, .f32⟩
  | .hbm, ⟨96, _⟩ => ⟨S139264x1024, .f32⟩
  | .hbm, ⟨97, _⟩ => ⟨S139264x1024, .bf16⟩
  | _, _ => ⟨S544, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_cst_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_11 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x2816 : Shape := ⟨2, ![1024, 2816]⟩
abbrev S1024x128 : Shape := ⟨2, ![1024, 128]⟩
abbrev S1x1024 : Shape := ⟨2, ![1, 1024]⟩
abbrev S32768x2816 : Shape := ⟨2, ![32768, 2816]⟩
abbrev S32768x128 : Shape := ⟨2, ![32768, 128]⟩
abbrev S512x1024 : Shape := ⟨2, ![512, 1024]⟩
abbrev S512x2816 : Shape := ⟨2, ![512, 2816]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x128, .f32⟩
  | .hbm, ⟨4, _⟩ => ⟨S1x1024, .f32⟩
  | .hbm, ⟨5, _⟩ => ⟨S1024x2816, .bf16⟩
  | .hbm, ⟨6, _⟩ => ⟨S1024x128, .bf16⟩
  | .hbm, ⟨7, _⟩ => ⟨S32768x2816, .bf16⟩
  | .hbm, ⟨8, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x128, .bf16⟩
  | .local _ .vmem, ⟨5, _⟩ => ⟨S512x2816, .bf16⟩
  | .local _ .vmem, ⟨6, _⟩ => ⟨S512x2816, .bf16⟩
  | .local _ .vmem, ⟨7, _⟩ => ⟨S512x128, .f32⟩
  | .local _ .vmem, ⟨8, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InprojRefIdeal.lean ====
abbrev S32768x1024 : Shape := ⟨2, ![32768, 1024]⟩
abbrev S1024 : Shape := ⟨1, ![1024]⟩
abbrev S1024x2816 : Shape := ⟨2, ![1024, 2816]⟩
abbrev S1024x128 : Shape := ⟨2, ![1024, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩
abbrev S32768x128 : Shape := ⟨2, ![32768, 128]⟩

abbrev nBuf : Space → Nat
  | .hbm => 23
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x128, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x2816, .f32⟩
  | .hbm, ⟨21, _⟩ => ⟨S32768x2816, .bf16⟩
  | .hbm, ⟨22, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Outproj.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1x1024 : Shape := ⟨2, ![1, 1024]⟩
abbrev S_ : Shape := ⟨0, ![]⟩
abbrev S1024x96 : Shape := ⟨2, ![1024, 96]⟩
abbrev S1024x128 : Shape := ⟨2, ![1024, 128]⟩
abbrev S1x32 : Shape := ⟨2, ![1, 32]⟩
abbrev S1x96 : Shape := ⟨2, ![1, 96]⟩
abbrev S1x128 : Shape := ⟨2, ![1, 128]⟩
abbrev S32768x128 : Shape := ⟨2, ![32768, 128]⟩
abbrev S512x512 : Shape := ⟨2, ![512, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 26
  | .vmem => 17
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024x32, .f32⟩
  | .hbm, ⟨6, _⟩ => ⟨S32, .f32⟩
  | .hbm, ⟨7, _⟩ => ⟨S1024x32, .bf16⟩
  | .hbm, ⟨8, _⟩ => ⟨S1024x32, .f32⟩
  | .hbm, ⟨9, _⟩ => ⟨S1024x32, .f32⟩
  | .hbm, ⟨10, _⟩ => ⟨S1024x32, .bf16⟩
  | .hbm, ⟨11, _⟩ => ⟨S1024x1024, .bf16⟩
  | .hbm, ⟨12, _⟩ => ⟨S1x1024, .f32⟩
  | .hbm, ⟨13, _⟩ => ⟨S_, .bf16⟩
  | .hbm, ⟨14, _⟩ => ⟨S1024x96, .bf16⟩
  | .hbm, ⟨15, _⟩ => ⟨S1024x128, .bf16⟩
  | .hbm, ⟨16, _⟩ => ⟨S_, .bf16⟩
  | .hbm, ⟨17, _⟩ => ⟨S1024x96, .bf16⟩
  | .hbm, ⟨18, _⟩ => ⟨S1024x128, .bf16⟩
  | .hbm, ⟨19, _⟩ => ⟨S1x32, .f32⟩
  | .hbm, ⟨20, _⟩ => ⟨S_, .f32⟩
  | .hbm, ⟨21, _⟩ => ⟨S1x96, .f32⟩
  | .hbm, ⟨22, _⟩ => ⟨S1x128, .f32⟩
  | .hbm, ⟨23, _⟩ => ⟨S32768x1024, .f32⟩
  | .hbm, ⟨24, _⟩ => ⟨S32768x1024, .bf16⟩
  | .hbm, ⟨25, _⟩ => ⟨S32768x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x128, .bf16⟩
  | .local _ .vmem, ⟨9, _⟩ => ⟨S1024x128, .bf16⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x128, .f32⟩
  | .local _ .vmem, ⟨16, _⟩ => ⟨S512x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutprojRefIdeal.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024x32, .f32⟩
  | .hbm, ⟨6, _⟩ => ⟨S32, .f32⟩
  | .hbm, ⟨7, _⟩ => ⟨S32768x1024, .bf16⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x1024, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kvprep.lean ====
abbrev S16x2048x128 : Shape := ⟨3, ![16, 2048, 128]⟩
abbrev S16x2048 : Shape := ⟨2, ![16, 2048]⟩
abbrev S3x64 : Shape := ⟨2, ![3, 64]⟩
abbrev S32x64 : Shape := ⟨2, ![32, 64]⟩
abbrev S2048x256 : Shape := ⟨2, ![2048, 256]⟩
abbrev S256x64 : Shape := ⟨2, ![256, 64]⟩
abbrev S8 : Shape := ⟨1, ![8]⟩
abbrev S_ : Shape := ⟨0, ![]⟩
abbrev S16x2048x1 : Shape := ⟨3, ![16, 2048, 1]⟩
abbrev S1x1x8 : Shape := ⟨3, ![1, 1, 8]⟩
abbrev S16x2048x8 : Shape := ⟨3, ![16, 2048, 8]⟩
abbrev S16x2048x48 : Shape := ⟨3, ![16, 2048, 48]⟩
abbrev S16x2048x64 : Shape := ⟨3, ![16, 2048, 64]⟩
abbrev S64x64 : Shape := ⟨2, ![64, 64]⟩
abbrev S8x1 : Shape := ⟨2, ![8, 1]⟩
abbrev S8x2 : Shape := ⟨2, ![8, 2]⟩
abbrev S16x128x16x2x64 : Shape := ⟨5, ![16, 128, 16, 2, 64]⟩
abbrev S16x2x128x16x64 : Shape := ⟨5, ![16, 2, 128, 16, 64]⟩
abbrev S16x2x128x1024 : Shape := ⟨4, ![16, 2, 128, 1024]⟩
abbrev S16x2048x2x64 : Shape := ⟨4, ![16, 2048, 2, 64]⟩
abbrev S16x2x2048x64 : Shape := ⟨4, ![16, 2, 2048, 64]⟩
abbrev S1x2048 : Shape := ⟨2, ![1, 2048]⟩
abbrev S16x2x128x64 : Shape := ⟨4, ![16, 2, 128, 64]⟩
abbrev S1x1x128x1024 : Shape := ⟨4, ![1, 1, 128, 1024]⟩
abbrev S1x1x2048x64 : Shape := ⟨4, ![1, 1, 2048, 64]⟩
abbrev S1x2048x64 : Shape := ⟨3, ![1, 2048, 64]⟩
abbrev S1x1x128x64 : Shape := ⟨4, ![1, 1, 128, 64]⟩
abbrev S128x1024 : Shape := ⟨2, ![128, 1024]⟩
abbrev S1x1024 : Shape := ⟨2, ![1, 1024]⟩
abbrev S1024x256 : Shape := ⟨2, ![1024, 256]⟩
abbrev S128x256 : Shape := ⟨2, ![128, 256]⟩
abbrev S128x64 : Shape := ⟨2, ![128, 64]⟩
abbrev S1x64 : Shape := ⟨2, ![1, 64]⟩
abbrev S128 : Shape := ⟨1, ![128]⟩
abbrev S128x1 : Shape := ⟨2, ![128, 1]⟩
abbrev S2048x64 : Shape := ⟨2, ![2048, 64]⟩
abbrev S2048 : Shape := ⟨1, ![2048]⟩
abbrev S2048x1 : Shape := ⟨2, ![2048, 1]⟩

abbrev nBuf : Space → Nat
  | .hbm => 111
  | .vmem => 28
  | .smem => 0
  | _ => 0

abbrev bufTy : (tb : Table) → Fin (tcTables nBuf tb) → BufTy
  | .hbm, ⟨0, _⟩ => ⟨S16x2048x128, .bf16⟩
  | .hbm, ⟨1, _⟩ => ⟨S16x2048x128, .bf16⟩
  | .hbm, ⟨2, _⟩ => ⟨S16x2048x128, .bf16⟩
  | .hbm, ⟨3, _⟩ => ⟨S16x2048x128, .bf16⟩
  | .hbm, ⟨4, _⟩ => ⟨S16x2048, .i32⟩
  | .hbm, ⟨5, _⟩ => ⟨S3x64, .f32⟩
  | .hbm, ⟨6, _⟩ => ⟨S32x64, .f32⟩
  | .hbm, ⟨7, _⟩ => ⟨S2048x256, .f32⟩
  | .hbm, ⟨8, _⟩ => ⟨S256x64, .f32⟩
  | .hbm, ⟨9, _⟩ => ⟨S32x64, .f32⟩
  | .hbm, ⟨10, _⟩ => ⟨S2048x256, .f32⟩
  | .hbm, ⟨11, _⟩ => ⟨S256x64, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S16x2048, .f32⟩
  | .hbm, ⟨27, _⟩ => ⟨S16x2048x1, .f32⟩
  | .hbm, ⟨28, _⟩ => ⟨S1x1x8, .f32⟩
  | .hbm, ⟨29, _⟩ => ⟨S16x2048x8, .f32⟩
  | .hbm, ⟨30, _⟩ => ⟨S16x2048x8, .f32⟩
  | .hbm, ⟨31, _⟩ => ⟨S16x2048x8, .f32⟩
  | .hbm, ⟨32, _⟩ => ⟨S16x2048x8, .f32⟩
  | .hbm, ⟨33, _⟩ => ⟨S16x2048x8, .f32⟩
  | .hbm, ⟨34, _⟩ => ⟨S_, .f32⟩
  | .hbm, ⟨35, _⟩ => ⟨S16x2048x48, .f32⟩
  | .hbm, ⟨36, _⟩ => ⟨S16x2048x64, .f32⟩
  | .hbm, ⟨37, _⟩ => ⟨S16x2048x8, .f32⟩
  | .hbm, ⟨38, _⟩ => ⟨S_, .f32⟩
  | .hbm, ⟨39, _⟩ => ⟨S16x2048x48, .f32⟩
  | .hbm, ⟨40, _⟩ => ⟨S16x2048x64, .f32⟩
  | .hbm, ⟨41, _⟩ => ⟨S_, .f32⟩
  | .hbm, ⟨42, _⟩ => ⟨S64x64, .f32⟩
  | .hbm, ⟨43, _⟩ => ⟨S8, .i32⟩
  | .hbm, ⟨44, _⟩ => ⟨S_, .i32⟩
  | .hbm, ⟨45, _⟩ => ⟨S8, .i32⟩
  | .hbm, ⟨46, _⟩ => ⟨S8, .i32⟩
  | .hbm, ⟨47, _⟩ => ⟨S_, .i32⟩
  | .hbm, ⟨48, _⟩ => ⟨S8, .i32⟩
  | .hbm, ⟨49, _⟩ => ⟨S8, .i1⟩
  | .hbm, ⟨50, _⟩ => ⟨S_, .i32⟩
  | .hbm, ⟨51, _⟩ => ⟨S8, .i32⟩
  | .hbm, ⟨52, _⟩ => ⟨S8, .i32⟩
  | .hbm, ⟨53, _⟩ => ⟨S8, .i32⟩
  | .hbm, ⟨54, _⟩ => ⟨S_, .i32⟩
  | .hbm, ⟨55, _⟩ => ⟨S8, .i32⟩
  | .hbm, ⟨56, _⟩ => ⟨S8, .i1⟩
  | .hbm, ⟨57, _⟩ => ⟨S_, .i32⟩
  | .hbm, ⟨58, _⟩ => ⟨S8, .i32⟩
  | .hbm, ⟨59, _⟩ => ⟨S8, .i32⟩
  | .hbm, ⟨60, _⟩ => ⟨S8, .i32⟩
  | .hbm, ⟨61, _⟩ => ⟨S8x1, .i32⟩
  | .hbm, ⟨62, _⟩ => ⟨S8x1, .i32⟩
  | .hbm, ⟨63, _⟩ => ⟨S8x2, .i32⟩
  | .hbm, ⟨64, _⟩ => ⟨S_, .f32⟩
  | .hbm, ⟨65, _⟩ => ⟨S8, .f32⟩
  | .hbm, ⟨66, _⟩ => ⟨S64x64, .f32⟩
  | .hbm, ⟨67, _⟩ => ⟨S_, .i32⟩
  | .hbm, ⟨68, _⟩ => ⟨S8, .i32⟩
  | .hbm, ⟨69, _⟩ => ⟨S8, .i32⟩
  | .hbm, ⟨70, _⟩ => ⟨S_, .i32⟩
  | .hbm, ⟨71, _⟩ => ⟨S8, .i32⟩
  | .hbm, ⟨72, _⟩ => ⟨S8, .i1⟩
  | .hbm, ⟨73, _⟩ => ⟨S_, .i32⟩
  | .hbm, ⟨74, _⟩ => ⟨S8, .i32⟩
  | .hbm, ⟨75, _⟩ => ⟨S8, .i32⟩
  | .hbm, ⟨76, _⟩ => ⟨S8, .i32⟩
  | .hbm, ⟨77, _⟩ => ⟨S_, .i32⟩
  | .hbm, ⟨78, _⟩ => ⟨S8, .i32⟩
  | .hbm, ⟨79, _⟩ => ⟨S8, .i1⟩
  | .hbm, ⟨80, _⟩ => ⟨S_, .i32⟩
  | .hbm, ⟨81, _⟩ => ⟨S8, .i32⟩
  | .hbm, ⟨82, _⟩ => ⟨S8, .i32⟩
  | .hbm, ⟨83, _⟩ => ⟨S8, .i32⟩
  | .hbm, ⟨84, _⟩ => ⟨S8x1, .i32⟩
  | .hbm, ⟨85, _⟩ => ⟨S8x1, .i32⟩
  | .hbm, ⟨86, _⟩ => ⟨S8x2, .i32⟩
  | .hbm, ⟨87, _⟩ => ⟨S_, .f32⟩
  | .hbm, ⟨88, _⟩ => ⟨S8, .f32⟩
  | .hbm, ⟨89, _⟩ => ⟨S64x64, .f32⟩
  | .hbm, ⟨90, _⟩ => ⟨S64x64, .bf16⟩
  | .hbm, ⟨91, _⟩ => ⟨S16x128x16x2x64, .bf16⟩
  | .hbm, ⟨92, _⟩ => ⟨S16x2x128x16x64, .bf16⟩
  | .hbm, ⟨93, _⟩ => ⟨S16x2x128x1024, .bf16⟩
  | .hbm, ⟨94, _⟩ => ⟨S16x128x16x2x64, .bf16⟩
  | .hbm, ⟨95, _⟩ => ⟨S16x2x128x16x64, .bf16⟩
  | .hbm, ⟨96, _⟩ => ⟨S16x2x128x1024, .bf16⟩
  | .hbm, ⟨97, _⟩ => ⟨S16x2048x2x64, .bf16⟩
  | .hbm, ⟨98, _⟩ => ⟨S16x2x2048x64, .bf16⟩
  | .hbm, ⟨99, _⟩ => ⟨S16x2048x2x64, .bf16⟩
  | .hbm, ⟨100, _⟩ => ⟨S16x2x2048x64, .bf16⟩
  | .hbm, ⟨101, _⟩ => ⟨S1x2048, .f32⟩
  | .hbm, ⟨102, _⟩ => ⟨S2048x256, .bf16⟩
  | .hbm, ⟨103, _⟩ => ⟨S256x64, .bf16⟩
  | .hbm, ⟨104, _⟩ => ⟨S1x2048, .f32⟩
  | .hbm, ⟨105, _⟩ => ⟨S2048x256, .bf16⟩
  | .hbm, ⟨106, _⟩ => ⟨S256x64, .bf16⟩
  | .hbm, ⟨107, _⟩ => ⟨S16x2x128x64, .bf16⟩
  | .hbm, ⟨108, _⟩ => ⟨S16x2x128x64, .bf16⟩
  | .hbm, ⟨109, _⟩ => ⟨S16x2x2048x64, .bf16⟩
  | .hbm, ⟨110, _⟩ => ⟨S16x2x2048x64, .bf16⟩
  | .local _ .vmem, ⟨0, _⟩ => ⟨S1x1x128x1024, .bf16⟩
  | .local _ .vmem, ⟨1, _⟩ => ⟨S1x1x128x1024, .bf16⟩
  | .local _ .vmem, ⟨2, _⟩ => ⟨S1x1x128x1024, .bf16⟩
  | .local _ .vmem, ⟨3, _⟩ => ⟨S1x1x128x1024, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x1x2048x64, .bf16⟩
  | .local _ .vmem, ⟨7, _⟩ => ⟨S1x1x2048x64, .bf16⟩
  | .local _ .vmem, ⟨8, _⟩ => ⟨S1x2048x64, .f32⟩
  | .local _ .vmem, ⟨9, _⟩ => ⟨S1x2048x64, .f32⟩
  | .local _ .vmem, ⟨10, _⟩ => ⟨S1x2048x64, .f32⟩
  | .local _ .vmem, ⟨11, _⟩ => ⟨S1x2048x64, .f32⟩
  | .local _ .vmem, ⟨12, _⟩ => ⟨S3x64, .f32⟩
  | .local _ .vmem, ⟨13, _⟩ => ⟨S64x64, .bf16⟩
  | .local _ .vmem, ⟨14, _⟩ => ⟨S1x2048, .f32⟩
  | .local _ .vmem, ⟨15, _⟩ => ⟨S2048x256, .bf16⟩
  | .local _ .vmem, ⟨16, _⟩ => ⟨S256x64, .bf16⟩
  | .local _ .vmem, ⟨17, _⟩ => ⟨S1x2048, .f32⟩
  | .local _ .vmem, ⟨18, _⟩ => ⟨S2048x256, .bf16⟩
  | .local _ .vmem, ⟨19, _⟩ => ⟨S256x64, .bf16⟩
  | .local _ .vmem, ⟨20, _⟩ => ⟨S1x1x128x64, .bf16⟩
  | .local _ .vmem, ⟨21, _⟩ => ⟨S1x1x128x64, .bf16⟩
  | .local _ .vmem, ⟨22, _⟩ => ⟨S1x1x128x64, .bf16⟩
  | .local _ .vmem, ⟨23, _⟩ => ⟨S1x1x128x64, .bf16⟩
  | .local _ .vmem, ⟨24, _⟩ => ⟨S1x1x2048x64, .bf16⟩
  | .local _ .vmem, ⟨25, _⟩ => ⟨S1x1x2048x64, .bf16⟩
  | .local _ .vmem, ⟨26, _⟩ => ⟨S1x1x2048x64, .bf16⟩
  | .local _ .vmem, ⟨27, _⟩ => ⟨S1x1x2048x64, .bf16⟩
  | _, _ => ⟨S16x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_c : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_c_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_8 : Ref sig .tc := ⟨.hbm, 54, rfl⟩
abbrev main_v32 : Ref sig .tc := ⟨.hbm, 55, rfl⟩
abbrev main_v33 : Ref sig .tc := ⟨.hbm, 56, rfl⟩
abbrev main_c_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_10 : Ref sig .tc := ⟨.hbm, 64, rfl⟩
abbrev main_v40 : Ref sig .tc := ⟨.hbm, 65, rfl⟩
abbrev main_v41 : Ref sig .tc := ⟨.hbm, 66, rfl⟩
abbrev main_c_11 : Ref sig .tc := ⟨.hbm, 67, rfl⟩
abbrev main_v42 : Ref sig .tc := ⟨.hbm, 68, rfl⟩
abbrev main_v43 : Ref sig .tc := ⟨.hbm, 69, rfl⟩
abbrev main_c_12 : Ref sig .tc := ⟨.hbm, 70, rfl⟩
abbrev main_v44 : Ref sig .tc := ⟨.hbm, 71, rfl⟩
abbrev main_v45 : Ref sig .tc := ⟨.hbm, 72, rfl⟩
abbrev main_c_13 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_14 : Ref sig .tc := ⟨.hbm, 77, rfl⟩
abbrev main_v49 : Ref sig .tc := ⟨.hbm, 78, rfl⟩
abbrev main_v50 : Ref sig .tc := ⟨.hbm, 79, rfl⟩
abbrev main_c_15 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_16 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76_0 : Ref sig .tc := ⟨.hbm, 107, rfl⟩
abbrev main_v76_1 : Ref sig .tc := ⟨.hbm, 108, rfl⟩
abbrev main_v76_2 : Ref sig .tc := ⟨.hbm, 109, rfl⟩
abbrev main_v76_3 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2048x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2048x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1x128x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x128x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x2048x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x2048x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== KvprepRefIdeal.lean ====
abbrev S16x2048x128 : Shape := ⟨3, ![16, 2048, 128]⟩
abbrev S16x2048 : Shape := ⟨2, ![16, 2048]⟩
abbrev S3x64 : Shape := ⟨2, ![3, 64]⟩
abbrev S32x64 : Shape := ⟨2, ![32, 64]⟩
abbrev S2048x256 : Shape := ⟨2, ![2048, 256]⟩
abbrev S256x64 : Shape := ⟨2, ![256, 64]⟩
abbrev S16x2048x2x64 : Shape := ⟨4, ![16, 2048, 2, 64]⟩
abbrev S127 : Shape := ⟨1, ![127]⟩
abbrev S127x1 : Shape := ⟨2, ![127, 1]⟩
abbrev S_ : Shape := ⟨0, ![]⟩
abbrev S32 : Shape := ⟨1, ![32]⟩
abbrev S1x32 : Shape := ⟨2, ![1, 32]⟩
abbrev S127x32 : Shape := ⟨2, ![127, 32]⟩
abbrev S127x32x1 : Shape := ⟨3, ![127, 32, 1]⟩
abbrev S16x127x32x2x64 : Shape := ⟨5, ![16, 127, 32, 2, 64]⟩
abbrev S1x1x32x1x64 : Shape := ⟨5, ![1, 1, 32, 1, 64]⟩
abbrev S16x127x2x32x64 : Shape := ⟨5, ![16, 127, 2, 32, 64]⟩
abbrev S16x127x2x2048 : Shape := ⟨4, ![16, 127, 2, 2048]⟩
abbrev S16x127x2x256 : Shape := ⟨4, ![16, 127, 2, 256]⟩
abbrev S16x127x2x64 : Shape := ⟨4, ![16, 127, 2, 64]⟩
abbrev S1x64 : Shape := ⟨2, ![1, 64]⟩
abbrev S64 : Shape := ⟨1, ![64]⟩
abbrev S16x127x2 : Shape := ⟨3, ![16, 127, 2]⟩
abbrev S16x127x2x1 : Shape := ⟨4, ![16, 127, 2, 1]⟩
abbrev S1x1x1x64 : Shape := ⟨4, ![1, 1, 1, 64]⟩
abbrev S16x2x127x64 : Shape := ⟨4, ![16, 2, 127, 64]⟩
abbrev S16x2x128x64 : Shape := ⟨4, ![16, 2, 128, 64]⟩

abbrev nBuf : Space → Nat
  | .hbm => 114
  | .vmem => 0
  | .smem => 0
  | _ => 0

abbrev bufTy : (tb : Table) → Fin (tcTables nBuf tb) → BufTy
  | .hbm, ⟨0, _⟩ => ⟨S16x2048x128, .bf16⟩
  | .hbm, ⟨1, _⟩ => ⟨S16x2048x128, .bf16⟩
  | .hbm, ⟨2, _⟩ => ⟨S16x2048x128, .bf16⟩
  | .hbm, ⟨3, _⟩ => ⟨S16x2048x128, .bf16⟩
  | .hbm, ⟨4, _⟩ => ⟨S16x2048, .i32⟩
  | .hbm, ⟨5, _⟩ => ⟨S3x64, .f32⟩
  | .hbm, ⟨6, _⟩ => ⟨S32x64, .f32⟩
  | .hbm, ⟨7, _⟩ => ⟨S2048x256, .f32⟩
  | .hbm, ⟨8, _⟩ => ⟨S256x64, .f32⟩
  | .hbm, ⟨9, _⟩ => ⟨S32x64, .f32⟩
  | .hbm, ⟨10, _⟩ => ⟨S2048x256, .f32⟩
  | .hbm, ⟨11, _⟩ => ⟨S256x64, .f32⟩
  | .hbm, ⟨12, _⟩ => ⟨S16x2048x128, .f32⟩
  | .hbm, ⟨13, _⟩ => ⟨S16x2048x2x64, .f32⟩
  | .hbm, ⟨14, _⟩ => ⟨S127, .i32⟩
  | .hbm, ⟨15, _⟩ => ⟨S127x1, .i32⟩
  | .hbm, ⟨16, _⟩ => ⟨S_, .i32⟩
  | .hbm, ⟨17, _⟩ => ⟨S127x1, .i32⟩
  | .hbm, ⟨18, _⟩ => ⟨S127x1, .i32⟩
  | .hbm, ⟨19, _⟩ => ⟨S32, .i32⟩
  | .hbm, ⟨20, _⟩ => ⟨S1x32, .i32⟩
  | .hbm, ⟨21, _⟩ => ⟨S127x32, .i32⟩
  | .hbm, ⟨22, _⟩ => ⟨S127x32, .i32⟩
  | .hbm, ⟨23, _⟩ => ⟨S127x32, .i32⟩
  | .hbm, ⟨24, _⟩ => ⟨S_, .i32⟩
  | .hbm, ⟨25, _⟩ => ⟨S127x32, .i32⟩
  | .hbm, ⟨26, _⟩ => ⟨S127x32, .i1⟩
  | .hbm, ⟨27, _⟩ => ⟨S_, .i32⟩
  | .hbm, ⟨28, _⟩ => ⟨S127x32, .i32⟩
  | .hbm, ⟨29, _⟩ => ⟨S127x32, .i32⟩
  | .hbm, ⟨30, _⟩ => ⟨S127x32, .i32⟩
  | .hbm, ⟨31, _⟩ => ⟨S127x32x1, .i32⟩
  | .hbm, ⟨32, _⟩ => ⟨S16x127x32x2x64, .f32⟩
  | .hbm, ⟨33, _⟩ => ⟨S1x1x32x1x64, .f32⟩
  | .hbm, ⟨34, _⟩ => ⟨S16x127x32x2x64, .f32⟩
  | .hbm, ⟨35, _⟩ => ⟨S16x127x32x2x64, .f32⟩
  | .hbm, ⟨36, _⟩ => ⟨S16x127x2x32x64, .f32⟩
  | .hbm, ⟨37, _⟩ => ⟨S16x127x2x2048, .f32⟩
  | .hbm, ⟨38, _⟩ => ⟨S16x127x2x256, .f32⟩
  | .hbm, ⟨39, _⟩ => ⟨S16x127x2x256, .f32⟩
  | .hbm, ⟨40, _⟩ => ⟨S16x127x2x256, .f32⟩
  | .hbm, ⟨41, _⟩ => ⟨S_, .f32⟩
  | .hbm, ⟨42, _⟩ => ⟨S16x127x2x256, .f32⟩
  | .hbm, ⟨43, _⟩ => ⟨S16x127x2x256, .f32⟩
  | .hbm, ⟨44, _⟩ => ⟨S_, .f32⟩
  | .hbm, ⟨45, _⟩ => ⟨S16x127x2x256, .f32⟩
  | .hbm, ⟨46, _⟩ => ⟨S16x127x2x256, .f32⟩
  | .hbm, ⟨47, _⟩ => ⟨S16x127x2x256, .f32⟩
  | .hbm, ⟨48, _⟩ => ⟨S16x127x2x64, .f32⟩
  | .hbm, ⟨49, _⟩ => ⟨S1x64, .f32⟩
  | .hbm, ⟨50, _⟩ => ⟨S64, .f32⟩
  | .hbm, ⟨51, _⟩ => ⟨S16x127x2x64, .f32⟩
  | .hbm, ⟨52, _⟩ => ⟨S_, .f32⟩
  | .hbm, ⟨53, _⟩ => ⟨S16x127x2, .f32⟩
  | .hbm, ⟨54, _⟩ => ⟨S16x127x2x1, .f32⟩
  | .hbm, ⟨55, _⟩ => ⟨S_, .f32⟩
  | .hbm, ⟨56, _⟩ => ⟨S16x127x2x1, .f32⟩
  | .hbm, ⟨57, _⟩ => ⟨S16x127x2x1, .f32⟩
  | .hbm, ⟨58, _⟩ => ⟨S_, .f32⟩
  | .hbm, ⟨59, _⟩ => ⟨S16x127x2x1, .f32⟩
  | .hbm, ⟨60, _⟩ => ⟨S16x127x2x1, .f32⟩
  | .hbm, ⟨61, _⟩ => ⟨S16x127x2x1, .f32⟩
  | .hbm, ⟨62, _⟩ => ⟨S16x127x2x64, .f32⟩
  | .hbm, ⟨63, _⟩ => ⟨S16x127x2x64, .f32⟩
  | .hbm, ⟨64, _⟩ => ⟨S1x1x1x64, .f32⟩
  | .hbm, ⟨65, _⟩ => ⟨S16x127x2x64, .f32⟩
  | .hbm, ⟨66, _⟩ => ⟨S16x127x2x64, .f32⟩
  | .hbm, ⟨67, _⟩ => ⟨S16x2048x128, .f32⟩
  | .hbm, ⟨68, _⟩ => ⟨S16x2048x2x64, .f32⟩
  | .hbm, ⟨69, _⟩ => ⟨S127, .i32⟩
  | .hbm, ⟨70, _⟩ => ⟨S127x1, .i32⟩
  | .hbm, ⟨71, _⟩ => ⟨S_, .i32⟩
  | .hbm, ⟨72, _⟩ => ⟨S127x1, .i32⟩
  | .hbm, ⟨73, _⟩ => ⟨S127x1, .i32⟩
  | .hbm, ⟨74, _⟩ => ⟨S32, .i32⟩
  | .hbm, ⟨75, _⟩ => ⟨S1x32, .i32⟩
  | .hbm, ⟨76, _⟩ => ⟨S127x32, .i32⟩
  | .hbm, ⟨77, _⟩ => ⟨S127x32, .i32⟩
  | .hbm, ⟨78, _⟩ => ⟨S127x32, .i32⟩
  | .hbm, ⟨79, _⟩ => ⟨S_, .i32⟩
  | .hbm, ⟨80, _⟩ => ⟨S127x32, .i32⟩
  | .hbm, ⟨81, _⟩ => ⟨S127x32, .i1⟩
  | .hbm, ⟨82, _⟩ => ⟨S_, .i32⟩
  | .hbm, ⟨83, _⟩ => ⟨S127x32, .i32⟩
  | .hbm, ⟨84, _⟩ => ⟨S127x32, .i32⟩
  | .hbm, ⟨85, _⟩ => ⟨S127x32, .i32⟩
  | .hbm, ⟨86, _⟩ => ⟨S127x32x1, .i32⟩
  | .hbm, ⟨87, _⟩ => ⟨S16x127x32x2x64, .f32⟩
  | .hbm, ⟨88, _⟩ => ⟨S1x1x32x1x64, .f32⟩
  | .hbm, ⟨89, _⟩ => ⟨S16x127x32x2x64, .f32⟩
  | .hbm, ⟨90, _⟩ => ⟨S16x127x32x2x64, .f32⟩
  | .hbm, ⟨91, _⟩ => ⟨S16x127x2x32x64, .f32⟩
  | .hbm, ⟨92, _⟩ => ⟨S16x127x2x2048, .f32⟩
  | .hbm, ⟨93, _⟩ => ⟨S16x127x2x256, .f32⟩
  | .hbm, ⟨94, _⟩ => ⟨S16x127x2x256, .f32⟩
  | .hbm, ⟨95, _⟩ => ⟨S16x127x2x256, .f32⟩
  | .hbm, ⟨96, _⟩ => ⟨S_, .f32⟩
  | .hbm, ⟨97, _⟩ => ⟨S16x127x2x256, .f32⟩
  | .hbm, ⟨98, _⟩ => ⟨S16x127x2x256, .f32⟩
  | .hbm, ⟨99, _⟩ => ⟨S_, .f32⟩
  | .hbm, ⟨100, _⟩ => ⟨S16x127x2x256, .f32⟩
  | .hbm, ⟨101, _⟩ => ⟨S16x127x2x256, .f32⟩
  | .hbm, ⟨102, _⟩ => ⟨S16x127x2x256, .f32⟩
  | .hbm, ⟨103, _⟩ => ⟨S16x127x2x64, .f32⟩
  | .hbm, ⟨104, _⟩ => ⟨S16x2x127x64, .f32⟩
  | .hbm, ⟨105, _⟩ => ⟨S_, .i32⟩
  | .hbm, ⟨106, _⟩ => ⟨S_, .f32⟩
  | .hbm, ⟨107, _⟩ => ⟨S16x2x128x64, .f32⟩
  | .hbm, ⟨108, _⟩ => ⟨S16x2x128x64, .bf16⟩
  | .hbm, ⟨109, _⟩ => ⟨S16x2x127x64, .f32⟩
  | .hbm, ⟨110, _⟩ => ⟨S_, .i32⟩
  | .hbm, ⟨111, _⟩ => ⟨S_, .f32⟩
  | .hbm, ⟨112, _⟩ => ⟨S16x2x128x64, .f32⟩
  | .hbm, ⟨113, _⟩ => ⟨S16x2x128x64, .bf16⟩
  | _, _ => ⟨S16x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst : Ref sig .tc := ⟨.hbm, 52, rfl⟩
abbrev main_v29 : Ref sig .tc := ⟨.hbm, 53, rfl⟩
abbrev main_v30 : Ref sig .tc := ⟨.hbm, 54, rfl⟩
abbrev main_cst_2 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_4 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_5 : Ref sig .tc := ⟨.hbm, 79, rfl⟩
abbrev main_v52 : Ref sig .tc := ⟨.hbm, 80, rfl⟩
abbrev main_v53 : Ref sig .tc := ⟨.hbm, 81, rfl⟩
abbrev main_c_6 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_call1_v5 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_c_7 : Ref sig .tc := ⟨.hbm, 105, rfl⟩
abbrev main_call2_v0 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_c_8 : Ref sig .tc := ⟨.hbm, 110, rfl⟩
abbrev main_call3_v0 : Ref sig .tc := ⟨.hbm, 111, rfl⟩
abbrev main_v71 : Ref sig .tc := ⟨.hbm, 112, rfl⟩
abbrev main_v72 : Ref sig .tc := ⟨.hbm, 113, rfl⟩

abbrev nD : Nat := 1
abbrev τ : Topo := Topo.v7x

variable {F : FTy → Type} [FloatOps F]
-- ==== Proof.Model.lean ====
/- Gated linear attention of one head, as scalars: the log decay of a position, its sums inside a chunk of 64
   positions, the state carried from chunk to chunk, and the normalised, gated output of a position. -/
module

public import Idealize.ShloMosaic.Lib.Pipeline.ValueKit

@[expose] public section

noncomputable section

namespace Cert.Gated

open Idealize.ShloMosaic

/-- Position `c` of chunk `n`. -/
def row (n : ℕ) (c : Fin 64) : Fin 2048 := ⟨(64 * n + c.val) % 2048, Nat.mod_lt _ (by decide)⟩

theorem row_val {n : ℕ} (h : n < 32) (c : Fin 64) : (row n c).val = 64 * n + c.val := Nat.mod_eq_of_lt (by omega)

/-- Every position is one of some chunk. -/
theorem row_divmod (s : Fin 2048) : row (s.val / 64) ⟨s.val % 64, Nat.mod_lt _ (by decide)⟩ = s :=
  Fin.ext ((row_val (by omega) _).trans (Nat.div_add_mod _ _))

/-- What one head of one batch row reads: queries, keys, values, output gate, gate features, the gate's weights and
    bias, and the norm's weights. -/
structure Head where
  q : Fin 2048 → Fin 64 → EReal
  k : Fin 2048 → Fin 64 → EReal
  v : Fin 2048 → Fin 128 → EReal
  lr : Fin 2048 → Fin 16 → EReal
  wg : Fin 16 → Fin 64 → EReal
  bg : Fin 64 → EReal
  r : Fin 2048 → Fin 128 → EReal
  ng : Fin 128 → EReal

/-- Column `d` of head `h` in a row of four heads' keys. -/
def col (h : Fin 4) (d : Fin 64) : Fin 256 := ⟨h.val * 64 + d.val, by omega⟩

/-- Column `e` of head `h` in a row of four heads' values. -/
def vcol (h : Fin 4) (e : Fin 128) : Fin 512 := ⟨h.val * 128 + e.val, by omega⟩

/-- The head `h` of batch row `b`, of the arrays. -/
def headAt (q k : FVec Ideal ⟨3, ![16, 2048, 256]⟩ .bf16) (v : FVec Ideal ⟨3, ![16, 2048, 512]⟩ .bf16) (lr : FVec Ideal ⟨3, ![16, 2048, 16]⟩ .f32)
    (r : FVec Ideal ⟨3, ![16, 2048, 512]⟩ .bf16) (wg : FVec Ideal ⟨2, ![16, 256]⟩ .f32) (bg : FVec Ideal ⟨1, ![256]⟩ .f32)
    (ng : FVec Ideal ⟨1, ![128]⟩ .f32) (b : Fin 16) (h : Fin 4) : Head where
  q s d := q (ix3 b s (col h d))
  k s d := k (ix3 b s (col h d))
  v s e := v (ix3 b s (vcol h e))
  lr s x := lr (ix3 b s x)
  wg x d := wg (ix2 x (col h d))
  bg d := bg (ix1 (col h d))
  r s e := r (ix3 b s (vcol h e))
  ng e := ng (ix1 e)

variable (H : Head)

/-- The forget gate before its logistic function. -/
def gate (s : Fin 2048) (d : Fin 64) : EReal := ∑ x, H.lr s x * H.wg x d + H.bg d

/-- The logarithm of the logistic function of `z`, over the temperature 16. -/
def tempered (z : EReal) : EReal :=
  Ideal.div (0 - (max (0 - z) 0 + Ideal.log (1 + Ideal.exp (0 - FloatOps.absf (F := Ideal) (φ := .f32) z)))) (Ideal.ofBits .f32 0x41800000#32)

/-- The log decay summed over chunk `n` up to its position `c`. -/
def cum (n : ℕ) (c d : Fin 64) : EReal := ∑ x : Fin 64, if x ≤ c then tempered (gate H (row n x) d) else 0

/-- The state before chunk `n`. -/
def state : ℕ → Fin 64 → Fin 128 → EReal
  | 0, _, _ => 0
  | n + 1, d, e => state n d e * Ideal.exp (cum H n 63 d)
      + ∑ x, H.v (row n x) e * (H.k (row n x) d * Ideal.exp (cum H n 63 d - cum H n x d))

/-- A scaled query, decayed from the start of its chunk. -/
def query (n : ℕ) (c d : Fin 64) : EReal := H.q (row n c) d * Ideal.ofBits .f32 0x3E000000#32 * Ideal.exp (cum H n c d)

/-- A score inside the chunk. -/
def score (n : ℕ) (c x : Fin 64) : EReal := ∑ d, query H n c d * (H.k (row n x) d * Ideal.exp (0 - cum H n x d))

/-- What a position attends to: the positions of its own chunk up to itself, and the state before the chunk. -/
def mix (n : ℕ) (c : Fin 64) (e : Fin 128) : EReal :=
  (∑ x, if x ≤ c then score H n c x * H.v (row n x) e else 0) + ∑ d, query H n c d * state H n d e

/-- The output: normalised by its root mean square, weighted, and gated. -/
def out (n : ℕ) (c : Fin 64) (e : Fin 128) : EReal :=
  mix H n c e * Ideal.rsqrt (Ideal.div (∑ x, mix H n c x * mix H n c x) (Ideal.ofBits .f32 0x43000000#32) + Ideal.ofBits .f32 0x358637BD#32)
    * H.ng e * (H.r (row n c) e * Ideal.logistic (H.r (row n c) e))

/-- The output array: batch row, head, position, column. -/
def outAt (q k : FVec Ideal ⟨3, ![16, 2048, 256]⟩ .bf16) (v : FVec Ideal ⟨3, ![16, 2048, 512]⟩ .bf16) (lr : FVec Ideal ⟨3, ![16, 2048, 16]⟩ .f32)
    (r : FVec Ideal ⟨3, ![16, 2048, 512]⟩ .bf16) (wg : FVec Ideal ⟨2, ![16, 256]⟩ .f32) (bg : FVec Ideal ⟨1, ![256]⟩ .f32)
    (ng : FVec Ideal ⟨1, ![128]⟩ .f32) : FVec Ideal ⟨4, ![16, 4, 2048, 128]⟩ .bf16 := fun y =>
  out (headAt q k v lr r wg bg ng (y 0) (y 1)) ((y 2).val / 64) ⟨(y 2).val % 64, Nat.mod_lt _ (by decide)⟩ (y 3)

end Cert.Gated

end
-- ==== Proof.KBlock.lean ====
/- What one grid point of the kernel computes: the loop over 32 chunks carries the state transposed, and the point's
   block of the output holds the outputs of the gated linear attention of the head it reads. -/
module

public import proofs.«01_k».proof.Proof.Gen.GlaIdeal.Value
public import proofs.«01_k».proof.Proof.Model
public import Idealize.ShloMosaic.Lib.Pipeline.ReadBack

@[expose] public section

set_option maxRecDepth 16384

noncomputable section

namespace Cert.GlaIdeal.Block

open Cert.GlaIdeal Cert.GlaIdeal.Gen Cert.Gated Idealize.ShloMosaic Idealize.ShloMosaic.TcCoe Idealize.SL.Sem

/-! ## The payloads at an index -/

/-- The comparison of two positions of a chunk. -/
theorem le_word : ∀ x c : Fin 64, IntOp.cmpi CmpIPredicate.sle (BitVec.ofNat 32 x.val) (BitVec.ofNat 32 c.val) = if x ≤ c then 1#1 else 0#1 := by
  decide +kernel

/-- A selection by it. -/
theorem select_le {α : Type} (x c : Fin 64) (a b : α) :
    Scalar.select (IntOp.cmpi CmpIPredicate.sle (BitVec.ofNat 32 x.val) (BitVec.ofNat 32 c.val)) a b = if x ≤ c then a else b := by
  rw [le_word]
  by_cases h : x ≤ c
  · simp only [if_pos h]; rfl
  · simp only [if_neg h]; rfl

/-- The summed log decays of a chunk. -/
theorem pay8 (w : Vec Ideal S1x16x64 .f32) (b : Vec Ideal S1x1x64 .f32) (l : Vec Ideal S1x64x16 .f32) (c d : Fin 64) :
    k0_pay8 k0_pay2 (k0_pay3 w) (k0_pay4 b) l (ix2 c d)
      = ∑ x : Fin 64, if x ≤ c then tempered (∑ y, l (ix3 0 x y) * w (ix3 0 y d) + b (ix3 0 0 d)) else 0 := by
  unfold k0_pay8 k0_pay3 k0_pay4 k0_pay2 k0_pay1
  pointwise
  refine Finset.sum_congr rfl fun x _ => ?_
  rw [select_le]
  by_cases h : x ≤ c
  · rw [if_pos h, if_pos h]; rfl
  · rw [if_neg h, if_neg h]

/-- Their last row. -/
theorem pay9 (w : Vec Ideal S1x16x64 .f32) (b : Vec Ideal S1x1x64 .f32) (l : Vec Ideal S1x64x16 .f32) (d : Fin 64) :
    k0_pay9 k0_pay2 (k0_pay3 w) (k0_pay4 b) l (ix2 0 d) = k0_pay8 k0_pay2 (k0_pay3 w) (k0_pay4 b) l (ix2 63 d) := by
  unfold k0_pay9
  generalize k0_pay8 (F := Ideal) k0_pay2 (k0_pay3 w) (k0_pay4 b) l = B
  pointwise

/-- The scaled queries. -/
theorem pay10 (q : Vec Ideal S1x1x64x64 .bf16) (c d : Fin 64) :
    k0_pay10 q (ix2 c d) = q (ix4 0 0 c d) * Ideal.ofBits .f32 0x3E000000#32 := by
  unfold k0_pay10; pointwise

/-- The keys. -/
theorem pay11 (k : Vec Ideal S1x1x64x64 .bf16) (c d : Fin 64) : k0_pay11 k (ix2 c d) = k (ix4 0 0 c d) := by
  unfold k0_pay11; pointwise

/-- The next state. -/
theorem pay13 (S : FVec Ideal S128x64 .f32) (B : FVec Ideal S64x64 .f32) (b : FVec Ideal S1x64 .f32) (k : FVec Ideal S64x64 .f32)
    (v : Vec Ideal S1x1x64x128 .bf16) (e : Fin 128) (d : Fin 64) :
    k0_pay13 S B b k v (ix2 e d) = S (ix2 e d) * Ideal.exp (b (ix2 0 d))
      + ∑ x, v (ix4 0 0 x e) * (k (ix2 x d) * Ideal.exp (b (ix2 0 d) - B (ix2 x d))) := by
  unfold k0_pay13 k0_pay12; pointwise

/-- What a position attends to. -/
def attended (S : FVec Ideal S128x64 .f32) (B q k : FVec Ideal S64x64 .f32) (v : Vec Ideal S1x1x64x128 .bf16) (c : Fin 64) (e : Fin 128) : EReal :=
  (∑ x : Fin 64, if x ≤ c then (∑ d : Fin 64, q (ix2 c d) * Ideal.exp (B (ix2 c d)) * (k (ix2 x d) * Ideal.exp (0 - B (ix2 x d)))) * v (ix4 0 0 x e) else 0)
    + ∑ d : Fin 64, q (ix2 c d) * Ideal.exp (B (ix2 c d)) * S (ix2 e d)

/-- The outputs of a chunk. -/
theorem pay14 (g : Vec Ideal S1x128 .f32) (S : FVec Ideal S128x64 .f32) (B q k : FVec Ideal S64x64 .f32)
    (v r : Vec Ideal S1x1x64x128 .bf16) (c : Fin 64) (e : Fin 128) :
    k0_pay7 (k0_pay14 k0_pay1 (k0_pay5 g) S B q k v r) (ix4 0 0 c e)
      = attended S B q k v c e * Ideal.rsqrt (Ideal.div (∑ x, attended S B q k v c x * attended S B q k v c x) (Ideal.ofBits .f32 0x43000000#32)
          + Ideal.ofBits .f32 0x358637BD#32) * g (ix2 0 e) * (r (ix4 0 0 c e) * Ideal.logistic (r (ix4 0 0 c e))) := by
  unfold k0_pay7 k0_pay14 k0_pay12 k0_pay1 k0_pay5
  pointwise
  simp only [select_le]
  rfl

/-! ## One trip of the loop -/

variable (c : Dev nD) (i : grid0.Coords) (a2 : Memref sig .tc .vmem S1x1x2048x64 .bf16) (h2 : a2.IsWhole)
  (a3 : Memref sig .tc .vmem S1x1x2048x64 .bf16) (h3 : a3.IsWhole)
  (a4 : Memref sig .tc .vmem S1x1x2048x128 .bf16) (h4 : a4.IsWhole)
  (a5 : Memref sig .tc .vmem S1x2048x16 .f32) (h5 : a5.IsWhole)
  (a6 : Memref sig .tc .vmem S1x16x64 .f32) (h6 : a6.IsWhole)
  (a7 : Memref sig .tc .vmem S1x1x64 .f32) (h7 : a7.IsWhole)
  (a8 : Memref sig .tc .vmem S1x1x2048x128 .bf16) (h8 : a8.IsWhole)
  (a9 : Memref sig .tc .vmem S1x128 .f32) (h9 : a9.IsWhole)
  (a10 : Memref sig .tc .vmem S1x1x2048x128 .bf16) (h10 : a10.IsWhole)
  (x0 x1 : Vec Ideal S1x1x2048x64 .bf16) (x2 : Vec Ideal S1x1x2048x128 .bf16) (x3 : Vec Ideal S1x2048x16 .f32)
  (x4 : Vec Ideal S1x16x64 .f32) (x5 : Vec Ideal S1x1x64 .f32) (x6 : Vec Ideal S1x1x2048x128 .bf16) (x7 : Vec Ideal S1x128 .f32)

/-- The head a grid point reads. -/
def headOf : Head where
  q s d := x0 (ix4 0 0 s d)
  k s d := x1 (ix4 0 0 s d)
  v s e := x2 (ix4 0 0 s e)
  lr s x := x3 (ix3 0 s x)
  wg x d := x4 (ix3 0 x d)
  bg d := x5 (ix3 0 0 d)
  r s e := x6 (ix4 0 0 s e)
  ng e := x7 (ix2 0 e)

theorem trips : k0_t1_loop.trips = 32 := by decide +kernel

theorem trip_lt (k : Fin k0_t1_loop.trips) : k.val < 32 := k.isLt.trans_eq trips

section Loads
variable (k : Fin k0_t1_loop.trips)

/-- The chunk of the gate's features. -/
def lrAt : Vec Ideal S1x64x16 .f32 := View.ld x3 (Rect.unit (s := S1x2048x16) (k0_off1 k) S1x64x16.size (k0_off1_inb k))
/-- The chunk of the queries or keys. -/
def qkAt (x : Vec Ideal S1x1x2048x64 .bf16) : Vec Ideal S1x1x64x64 .bf16 :=
  View.ld x (Rect.unit (s := S1x1x2048x64) (k0_off2 k) S1x1x64x64.size (k0_off2_inb k))
/-- The chunk of the values or output gates. -/
def vrAt (x : Vec Ideal S1x1x2048x128 .bf16) : Vec Ideal S1x1x64x128 .bf16 :=
  View.ld x (Rect.unit (s := S1x1x2048x128) (k0_off3 k) S1x1x64x128.size (k0_off3_inb k))

theorem lrAt_at (x : Fin 64) (y : Fin 16) : lrAt x3 k (ix3 0 x y) = x3 (ix3 0 (row k.val x) y) := by
  refine View.ld_unit_apply_of _ _ _ _ _ _ fun a => Eq.trans ?_ (congrArg (· + _) (congrFun (k0_off1_eq k) a).symm)
  fin_cases a
  · rfl
  · exact row_val (trip_lt k) x
  · exact (Nat.zero_add _).symm

theorem qkAt_at (X : Vec Ideal S1x1x2048x64 .bf16) (x d : Fin 64) : qkAt k X (ix4 0 0 x d) = X (ix4 0 0 (row k.val x) d) := by
  refine View.ld_unit_apply_of _ _ _ _ _ _ fun a => Eq.trans ?_ (congrArg (· + _) (congrFun (k0_off2_eq k) a).symm)
  fin_cases a
  · rfl
  · rfl
  · exact row_val (trip_lt k) x
  · exact (Nat.zero_add _).symm

theorem vrAt_at (X : Vec Ideal S1x1x2048x128 .bf16) (x : Fin 64) (e : Fin 128) : vrAt k X (ix4 0 0 x e) = X (ix4 0 0 (row k.val x) e) := by
  refine View.ld_unit_apply_of _ _ _ _ _ _ fun a => Eq.trans ?_ (congrArg (· + _) (congrFun (k0_off3_eq k) a).symm)
  fin_cases a
  · rfl
  · rfl
  · exact row_val (trip_lt k) x
  · exact (Nat.zero_add _).symm

/-- The summed log decays in trip `k`. -/
def cumAt : FVec Ideal S64x64 .f32 := k0_pay8 k0_pay2 (k0_pay3 x4) (k0_pay4 x5) (lrAt x3 k)

/-- The state after trip `k`. -/
def nextAt (S : FVec Ideal S128x64 .f32) : FVec Ideal S128x64 .f32 :=
  k0_pay13 S (cumAt x3 x4 x5 k) (k0_pay9 k0_pay2 (k0_pay3 x4) (k0_pay4 x5) (lrAt x3 k)) (k0_pay11 (qkAt k x1)) (vrAt k x2)

/-- What trip `k` stores. -/
def storeAt (S : FVec Ideal S128x64 .f32) : FVec Ideal S1x1x64x128 .bf16 :=
  k0_pay7 (k0_pay14 k0_pay1 (k0_pay5 x7) S (cumAt x3 x4 x5 k) (k0_pay10 (qkAt k x0)) (k0_pay11 (qkAt k x1)) (vrAt k x2) (vrAt k x6))

theorem cumAt_at (c d : Fin 64) : cumAt x3 x4 x5 k (ix2 c d) = cum (headOf x0 x1 x2 x3 x4 x5 x6 x7) k.val c d := by
  refine (pay8 x4 x5 (lrAt x3 k) c d).trans ?_
  simp only [lrAt_at]
  rfl

theorem nextAt_at (S : FVec Ideal S128x64 .f32) (hS : ∀ e d, S (ix2 e d) = state (headOf x0 x1 x2 x3 x4 x5 x6 x7) k.val d e) (e : Fin 128) (d : Fin 64) :
    nextAt x1 x2 x3 x4 x5 k S (ix2 e d) = state (headOf x0 x1 x2 x3 x4 x5 x6 x7) (k.val + 1) d e := by
  refine (pay13 _ _ _ _ _ e d).trans ?_
  rw [pay9]
  simp only [pay11, qkAt_at, vrAt_at, hS]
  rw [show k0_pay8 k0_pay2 (k0_pay3 x4) (k0_pay4 x5) (lrAt x3 k) = cumAt x3 x4 x5 k from rfl]
  simp only [cumAt_at x0 x1 x2 x3 x4 x5 x6 x7]
  rfl

theorem storeAt_at (S : FVec Ideal S128x64 .f32) (hS : ∀ e d, S (ix2 e d) = state (headOf x0 x1 x2 x3 x4 x5 x6 x7) k.val d e) (c : Fin 64) (e : Fin 128) :
    storeAt x0 x1 x2 x3 x4 x5 x6 x7 k S (ix4 0 0 c e) = out (headOf x0 x1 x2 x3 x4 x5 x6 x7) k.val c e := by
  refine (pay14 _ _ _ _ _ _ _ c e).trans ?_
  have h : ∀ e, attended S (cumAt x3 x4 x5 k) (k0_pay10 (qkAt k x0)) (k0_pay11 (qkAt k x1)) (vrAt k x2) c e
      = mix (headOf x0 x1 x2 x3 x4 x5 x6 x7) k.val c e := fun e => by
    unfold attended
    simp only [pay10, pay11, qkAt_at, vrAt_at, hS, cumAt_at x0 x1 x2 x3 x4 x5 x6 x7]
    rfl
  simp only [h, vrAt_at]
  rfl

end Loads

theorem tripR_eq (k : Fin k0_t1_loop.trips) (S : FVec Ideal S128x64 .f32) :
    tripR_k0_t1 Variants.none c none i a2 h2 a3 h3 a4 h4 a5 h5 a6 h6 a7 h7 a8 h8 a9 h9 a10 h10 x4 x5 x7
      (h2.unread x0) (h3.unread x1) (h4.unread x2) (h5.unread x3) (h8.unread x6) k S = nextAt x1 x2 x3 x4 x5 k S := by
  unfold tripR_k0_t1 trip_k0_t1
  frame_out
  rfl

theorem tripL_eq (k : Fin k0_t1_loop.trips) (S : FVec Ideal S128x64 .f32) :
    tripL_k0_t1 Variants.none c none i a2 h2 a3 h3 a4 h4 a5 h5 a6 h6 a7 h7 a8 h8 a9 h9 a10 h10 x4 x5 x7
      (h2.unread x0) (h3.unread x1) (h4.unread x2) (h5.unread x3) (h8.unread x6) k S
      = [⟨Rect.unit (s := S1x1x2048x128) (k0_off3 k) S1x1x64x128.size (k0_off3_inb k), storeAt x0 x1 x2 x3 x4 x5 x6 x7 k S⟩] := by
  unfold tripL_k0_t1 trip_k0_t1
  frame_out
  rfl

/-! ## The loop -/

/-- What the point's block holds. -/
def blockOut (y : S1x1x2048x128.Idx) : EReal :=
  out (headOf x0 x1 x2 x3 x4 x5 x6 x7) ((y 2).val / 64) ⟨(y 2).val % 64, Nat.mod_lt _ (by decide)⟩ (y 3)

abbrev st (n : ℕ) :=
  st_k0_t1 Variants.none c none i a2 h2 a3 h3 a4 h4 a5 h5 a6 h6 a7 h7 a8 h8 a9 h9 a10 h10 x4 x5 x7
    (h2.unread x0) (h3.unread x1) (h4.unread x2) (h5.unread x3) (h8.unread x6) (k0_pay6 (F := Ideal)) n

/-- Before trip `n`: the carried value is the state transposed, what was stored is the output, and it covers the
    positions of the chunks before. -/
theorem loop (n : ℕ) (hn : n ≤ 32) :
    (∀ e d, (st c i a2 h2 a3 h3 a4 h4 a5 h5 a6 h6 a7 h7 a8 h8 a9 h9 a10 h10 x0 x1 x2 x3 x4 x5 x6 x7 n).1 (ix2 e d)
        = state (headOf x0 x1 x2 x3 x4 x5 x6 x7) n d e)
    ∧ View.PiecesOf (blockOut x0 x1 x2 x3 x4 x5 x6 x7)
        (st c i a2 h2 a3 h3 a4 h4 a5 h5 a6 h6 a7 h7 a8 h8 a9 h9 a10 h10 x0 x1 x2 x3 x4 x5 x6 x7 n).2
    ∧ ∀ y : S1x1x2048x128.Idx, (y 2).val < 64 * n →
        ∃ p ∈ (st c i a2 h2 a3 h3 a4 h4 a5 h5 a6 h6 a7 h7 a8 h8 a9 h9 a10 h10 x0 x1 x2 x3 x4 x5 x6 x7 n).2, y ∈ p.1.set := by
  induction n with
  | zero =>
    refine ⟨fun e d => ?_, trivial, fun y hy => absurd hy (by omega)⟩
    show k0_pay6 (F := Ideal) (ix2 e d) = 0
    unfold k0_pay6
    pointwise
  | succ n ih =>
    obtain ⟨ih1, ih2, ih3⟩ := ih (by omega)
    have hk : n < k0_t1_loop.trips := by rw [trips]; omega
    have e := st_k0_t1_succ (F := Ideal) Variants.none c none i a2 h2 a3 h3 a4 h4 a5 h5 a6 h6 a7 h7 a8 h8 a9 h9 a10 h10 x4 x5 x7
      (h2.unread x0) (h3.unread x1) (h4.unread x2) (h5.unread x3) (h8.unread x6) k0_pay6 ⟨n, hk⟩
    rw [tripR_eq, tripL_eq] at e
    rw [st, e]
    refine ⟨fun e d => nextAt_at x0 x1 x2 x3 x4 x5 x6 x7 ⟨n, hk⟩ _ ih1 e d, ⟨fun x => ?_, ih2⟩, fun y hy => ?_⟩
    · obtain ⟨x0', x1', x2', x3', rfl⟩ : ∃ (a : Fin 1) (b : Fin 1) (c : Fin 64) (d : Fin 128), x = ix4 a b c d :=
        ⟨x 0, x 1, x 2, x 3, by funext a; fin_cases a <;> rfl⟩
      have hx0 : x0' = 0 := Subsingleton.elim _ _
      have hx1 : x1' = 0 := Subsingleton.elim _ _
      subst hx0 hx1
      refine (storeAt_at x0 x1 x2 x3 x4 x5 x6 x7 ⟨n, hk⟩ _ ih1 x2' x3').trans ?_
      have hr := congrFun (k0_off3_eq ⟨n, hk⟩)
      have e2 : ((Rect.unit (s := S1x1x2048x128) (k0_off3 ⟨n, hk⟩) S1x1x64x128.size (k0_off3_inb ⟨n, hk⟩)).idx (ix4 0 0 x2' x3') 2).val
          = 64 * n + x2'.val := (Rect.idx_unit_val _ _ _ _ 2).trans (congrArg (· + x2'.val) (hr 2))
      have e3 : ((Rect.unit (s := S1x1x2048x128) (k0_off3 ⟨n, hk⟩) S1x1x64x128.size (k0_off3_inb ⟨n, hk⟩)).idx (ix4 0 0 x2' x3') 3).val
          = x3'.val := (Rect.idx_unit_val _ _ _ _ 3).trans ((congrArg (· + x3'.val) (hr 3)).trans (Nat.zero_add _))
      refine congr (congr (congrArg (out _) ?_) (Fin.ext ?_)) (Fin.ext e3.symm)
      · refine Eq.trans ?_ (congrArg (· / 64) e2.symm)
        show n = _
        omega
      · refine Eq.trans ?_ (congrArg (· % 64) e2.symm)
        show x2'.val = _
        omega
    · by_cases h : (y 2).val < 64 * n
      · obtain ⟨p, hp, hy'⟩ := ih3 y h
        exact ⟨p, List.mem_cons_of_mem _ hp, hy'⟩
      · refine ⟨⟨Rect.unit (s := S1x1x2048x128) (k0_off3 ⟨n, hk⟩) S1x1x64x128.size (k0_off3_inb ⟨n, hk⟩), _⟩, List.mem_cons_self,
          (Rect.mem_set_unit (inb := k0_off3_inb ⟨n, hk⟩)).mpr fun a => ?_⟩
        have hr := congrFun (k0_off3_eq ⟨n, hk⟩) a
        rw [hr]
        have := (y a).isLt
        fin_cases a
        · exact ⟨Nat.zero_le _, by simpa using this⟩
        · exact ⟨Nat.zero_le _, by simpa using this⟩
        · exact ⟨not_lt.mp h, by show (y 2).val < 64 * n + 64; omega⟩
        · exact ⟨Nat.zero_le _, by simpa using this⟩

/-- The block a grid point leaves: the output of the head it reads. -/
theorem block (y : S1x1x2048x128.Idx) :
    out0_A_8 c i a2 h2 a3 h3 a4 h4 a5 h5 a6 h6 a7 h7 a8 h8 a9 h9 a10 h10 x0 x1 x2 x3 x4 x5 x6 x7 y
      = blockOut x0 x1 x2 x3 x4 x5 x6 x7 y := by
  obtain ⟨-, hp, hc⟩ := loop c i a2 h2 a3 h3 a4 h4 a5 h5 a6 h6 a7 h7 a8 h8 a9 h9 a10 h10 x0 x1 x2 x3 x4 x5 x6 x7 32 le_rfl
  frame_out
  rw [show Scf.trips (0#32) (Scalar.addi 0#32 32#32) 1#32 = 32 from trips]
  have e := View.canon_append_of_piecesOf _ [] _ hp y (hc y (y 2).isLt)
  rw [List.append_nil] at e
  exact e

end Cert.GlaIdeal.Block

end
-- ==== Proof.KArray.lean ====
/- The array the kernel leaves: grid point `t` reads head `t % 4` of batch row `t / 4`, and the blocks make up the output. -/
module

public import proofs.«01_k».proof.Proof.KBlock

@[expose] public section

set_option maxRecDepth 16384

noncomputable section

namespace Cert.GlaIdeal.Array

open Cert.GlaIdeal Cert.GlaIdeal.Gen Cert.GlaIdeal.Block Cert.Gated Idealize.ShloMosaic Idealize.ShloMosaic.TcCoe Idealize.SL.Sem
open Idealize.ShloMosaic.Pipeline (Dat)

variable (m : (ℓ : Loc nD τ sig) → Buf (Elt Ideal) ℓ) (c : Dev nD)

/-- The block a grid point reads or writes in each array. -/
theorem idx : ∀ t : Fin cfg0.N, win0_0.index t = ![t.val / 4, t.val % 4, 0, 0] ∧ win0_1.index t = ![t.val / 4, t.val % 4, 0, 0]
    ∧ win0_2.index t = ![t.val / 4, t.val % 4, 0, 0] ∧ win0_3.index t = ![t.val / 4, 0, 0] ∧ win0_4.index t = ![t.val % 4, 0, 0]
    ∧ win0_5.index t = ![t.val % 4, 0, 0] ∧ win0_6.index t = ![t.val / 4, t.val % 4, 0, 0] ∧ win0_7.index t = ![0, 0]
    ∧ win0_8.index t = ![t.val / 4, t.val % 4, 0, 0] :=
  (by decide +kernel : ∀ t : Fin grid0.N, win0_0.index t = ![t.val / 4, t.val % 4, 0, 0] ∧ win0_1.index t = ![t.val / 4, t.val % 4, 0, 0]
    ∧ win0_2.index t = ![t.val / 4, t.val % 4, 0, 0] ∧ win0_3.index t = ![t.val / 4, 0, 0] ∧ win0_4.index t = ![t.val % 4, 0, 0]
    ∧ win0_5.index t = ![t.val % 4, 0, 0] ∧ win0_6.index t = ![t.val / 4, t.val % 4, 0, 0] ∧ win0_7.index t = ![0, 0]
    ∧ win0_8.index t = ![t.val / 4, t.val % 4, 0, 0])

/-- The batch row of a grid point. -/
def bOf (t : Fin cfg0.N) : Fin 16 := ⟨t.val / 4, by have : t.val < 64 := t.isLt; omega⟩
/-- Its head. -/
def hOf (t : Fin cfg0.N) : Fin 4 := ⟨t.val % 4, Nat.mod_lt _ (by decide)⟩

abbrev A0 : FVec Ideal ⟨3, ![16, 2048, 256]⟩ .bf16 := m ((c.tc : Thread nD τ).loc main_arg0)
abbrev A1 : FVec Ideal ⟨3, ![16, 2048, 256]⟩ .bf16 := m ((c.tc : Thread nD τ).loc main_arg1)
abbrev A2 : FVec Ideal ⟨3, ![16, 2048, 512]⟩ .bf16 := m ((c.tc : Thread nD τ).loc main_arg2)
abbrev A3 : FVec Ideal ⟨3, ![16, 2048, 16]⟩ .f32 := m ((c.tc : Thread nD τ).loc main_arg3)
abbrev A4 : FVec Ideal ⟨3, ![16, 2048, 512]⟩ .bf16 := m ((c.tc : Thread nD τ).loc main_arg4)
abbrev A5 : FVec Ideal ⟨2, ![16, 256]⟩ .f32 := m ((c.tc : Thread nD τ).loc main_arg5)
abbrev A6 : FVec Ideal ⟨1, ![256]⟩ .f32 := m ((c.tc : Thread nD τ).loc main_arg6)
abbrev A7 : FVec Ideal ⟨1, ![128]⟩ .f32 := m ((c.tc : Thread nD τ).loc main_arg7)

theorem q_at (t : Fin cfg0.N) (s : Fin 2048) (d : Fin 64) :
    (iblk m c 0 t : Vec Ideal S1x1x2048x64 .bf16) (ix4 0 0 s d) = A0 m c (ix3 (bOf t) s (col (hOf t) d)) := by
  unfold A0 bOf hOf col
  blk_point [iblk, V, idx t]

theorem k_at (t : Fin cfg0.N) (s : Fin 2048) (d : Fin 64) :
    (iblk m c 1 t : Vec Ideal S1x1x2048x64 .bf16) (ix4 0 0 s d) = A1 m c (ix3 (bOf t) s (col (hOf t) d)) := by
  unfold A1 bOf hOf col
  blk_point [iblk, V, idx t]

theorem v_at (t : Fin cfg0.N) (s : Fin 2048) (e : Fin 128) :
    (iblk m c 2 t : Vec Ideal S1x1x2048x128 .bf16) (ix4 0 0 s e) = A2 m c (ix3 (bOf t) s (vcol (hOf t) e)) := by
  unfold A2 bOf hOf vcol
  blk_point [iblk, V, idx t]

theorem lr_at (t : Fin cfg0.N) (s : Fin 2048) (x : Fin 16) :
    (iblk m c 3 t : Vec Ideal S1x2048x16 .f32) (ix3 0 s x) = A3 m c (ix3 (bOf t) s x) := by
  unfold A3 bOf
  blk_point [iblk, V, idx t]

theorem wg_at (t : Fin cfg0.N) (x : Fin 16) (d : Fin 64) :
    (iblk m c 4 t : Vec Ideal S1x16x64 .f32) (ix3 0 x d) = A5 m c (ix2 x (col (hOf t) d)) := by
  unfold A5  hOf col
  blk_point [iblk, V, idx t]

theorem bg_at (t : Fin cfg0.N) (d : Fin 64) :
    (iblk m c 5 t : Vec Ideal S1x1x64 .f32) (ix3 0 0 d) = A6 m c (ix1 (col (hOf t) d)) := by
  unfold A6  hOf col
  blk_point [iblk, V, idx t]

theorem r_at (t : Fin cfg0.N) (s : Fin 2048) (e : Fin 128) :
    (iblk m c 6 t : Vec Ideal S1x1x2048x128 .bf16) (ix4 0 0 s e) = A4 m c (ix3 (bOf t) s (vcol (hOf t) e)) := by
  unfold A4 bOf hOf vcol
  blk_point [iblk, V, idx t]

theorem ng_at (t : Fin cfg0.N) (e : Fin 128) :
    (iblk m c 7 t : Vec Ideal S1x128 .f32) (ix2 0 e) = A7 m c (ix1 e) := by
  unfold A7
  blk_point [iblk, V, idx t]

/-- The head a grid point reads, of the arrays. -/
theorem head_at (t : Fin cfg0.N) :
    headOf (iblk m c 0 t) (iblk m c 1 t) (iblk m c 2 t) (iblk m c 3 t) (iblk m c 4 t) (iblk m c 5 t) (iblk m c 6 t) (iblk m c 7 t)
      = headAt (A0 m c) (A1 m c) (A2 m c) (A3 m c) (A4 m c) (A5 m c) (A6 m c) (A7 m c) (bOf t) (hOf t) := by
  unfold headOf headAt
  simp only [Head.mk.injEq]
  exact ⟨funext fun s => funext fun d => q_at m c t s d, funext fun s => funext fun d => k_at m c t s d,
    funext fun s => funext fun e => v_at m c t s e, funext fun s => funext fun x => lr_at m c t s x,
    funext fun x => funext fun d => wg_at m c t x d, funext fun d => bg_at m c t d,
    funext fun s => funext fun e => r_at m c t s e, funext fun e => ng_at m c t e⟩

/-- The array the kernel leaves. -/
theorem array : (dats m 0 c).arrAt 8 cfg0.N = outAt (A0 m c) (A1 m c) (A2 m c) (A3 m c) (A4 m c) (A5 m c) (A6 m c) (A7 m c) := by
  refine (dats m 0 c).arrAt_eq_of_covers 8 _ (by decide +kernel) fun t hf y => ?_
  blk_simp
  rw [after0_8, outsAt0]
  refine (block c _ _ _ _ _ _ _ _ _ _ _ _ _ _ _ _ _ _ _ _ _ _ _ _ _ _ _ y).trans ?_
  unfold blockOut
  rw [head_at]
  have e : (win0_8.blk t).view.emb y = ix4 (bOf t) (hOf t) (y 2) (y 3) := by
    unfold bOf hOf
    blk_ext [idx t]
  rw [e]
  rfl

end Cert.GlaIdeal.Array

end
-- ==== Proof.RefRun.lean ====
/- The reference's run read as one state carried from chunk to chunk: a valuation of the loop holds a state, one trip of
   the loop takes it to the next state, and so the result is what the operations after the loop make of state 32. -/
module

public import proofs.«01_k».proof.Proof.Gen.GlaRefIdeal.Run
public import proofs.«01_k».proof.Proof.Gen.GlaRefIdeal.Step

@[expose] public section

set_option maxRecDepth 16384

noncomputable section

namespace Cert.GlaRefIdeal.Carried

open Idealize.ShloMosaic Idealize.ShloMosaic.TcCoe Idealize.SL.Sem Idealize.ShloMosaic.StableHlo
open Cert.GlaRefIdeal Cert.GlaRefIdeal.Gen Cert.GlaRefIdeal.Value
open Cert.GlaRefIdeal.Step

variable {F : FTy → Type} [FloatOps F]

/-- The loop's buffers hold the state `s` before trip `j`. -/
structure At (V : Valuation τ sig (Elt F)) (s : State F) (j : ℕ) : Prop where
  carry : V (Proc.devRef .tc main_v59_5) = s.main_v59_5
  outs : V (Proc.devRef .tc main_v59_6) = s.main_v59_6
  decay : V (Proc.devRef .tc main_v59_0) = s.main_v59_0
  upd : V (Proc.devRef .tc main_v59_1) = s.main_v59_1
  qs : V (Proc.devRef .tc main_v59_2) = s.main_v59_2
  intra : V (Proc.devRef .tc main_v59_3) = s.main_v59_3
  trip : V (Proc.devRef .tc main_v59_4) = constantI S_ 32 (BitVec.ofNat 32 j)

variable {V : Valuation τ sig (Elt F)} {s : State F} {j : ℕ}

/-- One trip's new carried state. -/
theorem carry_next (h : At V s j) : Value.step_main_v59_5 V = (step j s).main_v59_5 := by
  unfold Value.step_main_v59_5 step b26 b25 b24 b23 b4 b3 b10 b9
  rw [h.carry, h.decay, h.upd, h.trip]
  rfl

/-- One trip's new array of outputs. -/
theorem outs_next (h : At V s j) : Value.step_main_v59_6 V = (step j s).main_v59_6 := by
  unfold Value.step_main_v59_6 step b34 b29 b28 b27 b22 b21 b16 b15
  rw [h.outs, h.carry, h.intra, h.qs, h.trip]
  rfl

/-- One trip's new count. -/
theorem trip_next (h : At V s j) : step_main_v59_4 V = constantI S_ 32 (BitVec.ofNat 32 (j + 1)) := by
  unfold step_main_v59_4
  rw [h.trip]
  funext i
  show BitVec.ofNat 32 j + 1#32 = _
  simp only [constantI, BitVec.ofNat_add]

/-- One trip of the loop takes the state to the next. -/
theorem At.next (h : At V s j) : At (STEP V) (step j s) (j + 1) where
  carry := (STEP_main_v59_5 V).trans (carry_next h)
  outs := (STEP_main_v59_6 V).trans (outs_next h)
  decay := (STEP_main_v59_0 V).trans h.decay
  upd := (STEP_main_v59_1 V).trans h.upd
  qs := (STEP_main_v59_2 V).trans h.qs
  intra := (STEP_main_v59_3 V).trans h.intra
  trip := (STEP_main_v59_4 V).trans (trip_next h)

variable (m : (ℓ : Loc nD τ sig) → Buf (Elt F) ℓ) (ρ : Dev nD → PrngReg)

/-- The state before the first trip, of the arguments in memory. -/
abbrev first (c : Dev nD) : State F :=
  init (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg5)) (m ((c.tc : Thread nD τ).loc main_arg6))

/-- The state before trip `k`. -/
def states (s₀ : State F) : ℕ → State F
  | 0 => s₀
  | k + 1 => step k (states s₀ k)

set_option maxRecDepth 65536 in
set_option maxHeartbeats 1000000 in
/-- The operations before the loop leave the first state. -/
theorem entry (c : Dev nD) : At (entryContents preI m c) (first m c) 0 := by
  constructor <;> (simp only [entryContents, afterL_cons, afterL_nil]; after_reads_simp) <;> rfl

/-- Before trip `k` the loop's buffers hold state `k`. -/
theorem at_trip (c : Dev nD) : ∀ k, At (STEP^[k] (entryContents preI m c)) (states (first m c) k) k
  | 0 => entry m c
  | k + 1 => by
    rw [Function.iterate_succ_apply']
    exact (at_trip c k).next

/-- The result of the operations after the loop, of the state they start from. -/
theorem result_of (h : At V s j) {x4 : (⟨S16x2048x512, .bf16⟩ : BufTy).Contents (Elt F)}
    {x7 : (⟨S128, .f32⟩ : BufTy).Contents (Elt F)} (h4 : V (Proc.devRef .tc main_arg4) = x4)
    (h7 : V (Proc.devRef .tc main_arg7) = x7) : out_main_v80 V = R_main_v80 s x4 x7 := by
  unfold out_main_v80 R_main_v80
  rw [h.outs, h4, h7]

/-- The reference ends with its result made of state 32, and its arguments as they were. -/
theorem run : θ_run (defs (F := F)) (onTc (τ := τ) (main (F := F))) ⟨m, fun _ => 0, ρ⟩ fun r => ∀ c : Dev nD,
      r.2.mem ((c.tc : Thread nD τ).loc main_v80) = R_main_v80 (states (first m c) 32)
        (m ((c.tc : Thread nD τ).loc main_arg4)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨(h c).1.trans (result_of (at_trip m c 32) (iter_main_arg4 m c 32) (iter_main_arg7 m c 32)), (h c).2⟩) (Value.run m ρ)

end Cert.GlaRefIdeal.Carried

end
-- ==== Proof.Window.lean ====
/- The running sum inside a chunk, as the host's windowed sum computes it, at an index. -/
module

public import proofs.«01_k».proof.GlaRefIdeal
public import proofs.«01_k».proof.Proof.Model
public import Idealize.ShloMosaic.Lib.DynamicIndex

@[expose] public section

set_option maxRecDepth 16384

noncomputable section

namespace Cert.GlaRefIdeal.Chunk

open Idealize.ShloMosaic Idealize.ShloMosaic.TcCoe
open Cert.GlaRefIdeal Cert.Gated

/-- A window of 64 ending at `c`, its part before the chunk holding nothing, is the sum up to `c`. -/
theorem window (f : Fin 64 → EReal) (c : Fin 64) :
    (∑ x : Fin 64, if h : 63 ≤ c.val + x.val then f ⟨c.val + x.val - 63, by omega⟩ else 0) = ∑ x : Fin 64, if x ≤ c then f x else 0 := by
  refine Fintype.sum_equiv (Equiv.addRight (c + 1)) _ _ fun x => ?_
  have hv : (Equiv.addRight (c + 1) x).val = (x.val + (c.val + 1)) % 64 := by
    show (x + (c + 1)).val = _
    rw [Fin.val_add, Fin.val_add]
    show (x.val + (c.val + 1) % 64) % 64 = _
    omega
  by_cases h : 63 ≤ c.val + x.val
  · rw [dif_pos h, if_pos (Fin.le_def.mpr (by omega))]
    exact congrArg f (Fin.ext (by show c.val + x.val - 63 = _; omega))
  · rw [dif_neg h, if_neg (fun hle => by have := Fin.le_def.mp hle; omega)]

/-- A left fold of additions from zero is a sum. -/
theorem foldl_sum {N : ℕ} (g : Fin N → EReal) : (List.finRange N).foldl (fun r n => r + g n) 0 = ∑ n, g n := by
  rw [Fin.sum_univ_def, List.sum_eq_foldl, List.foldl_map]

/-- The positions of a window. -/
def windowEquiv : Fin 64 ≃ (⟨5, ![1, 1, 1, 64, 1]⟩ : Shape).Idx where
  toFun x := ix5 0 0 0 x 0
  invFun w := w 3
  left_inv _ := rfl
  right_inv w := by
    funext a
    fin_cases a
    · exact Subsingleton.elim (α := Fin 1) _ _
    · exact Subsingleton.elim (α := Fin 1) _ _
    · exact Subsingleton.elim (α := Fin 1) _ _
    · rfl
    · exact Subsingleton.elim (α := Fin 1) _ _

/-- The host's windowed sum is the running sum inside the chunk. -/
theorem cumsum_at (x : FVec Ideal S16x4x32x64x64 .f32) (z : FVec Ideal S_ .f32) (hz : ∀ i, z i = 0)
    (hw : S16x4x32x64x64.ReduceWindows ![1, 1, 1, 64, 1] ![1, 1, 1, 1, 1] ![0, 0, 0, 63, 0] ![0, 0, 0, 0, 0] S16x4x32x64x64) (hu : 0 < S_.numel)
    (b : Fin 16) (h : Fin 4) (n : Fin 32) (c d : Fin 64) :
    Host.reduceWindowAdd ![1, 1, 1, 64, 1] ![1, 1, 1, 1, 1] ![0, 0, 0, 63, 0] ![0, 0, 0, 0, 0] x z hw hu (ix5 b h n c d)
      = ∑ y : Fin 64, if y ≤ c then x (ix5 b h n y d) else 0 := by
  show Host.reduceWindow (s := S16x4x32x64x64) (u := ⟨0, ![]⟩) (· + ·) ![1, 1, 1, 64, 1] ![1, 1, 1, 1, 1] ![0, 0, 0, 63, 0] ![0, 0, 0, 0, 0]
    x (fun _ => z (Shape.Idx.first hu)) hw (by decide) (ix5 b h n c d) = _
  rw [hz]
  unfold Host.reduceWindow
  refine (foldl_sum _).trans ?_
  refine Eq.trans ?_ (window (fun y => x (ix5 b h n y d)) c)
  refine Fintype.sum_equiv ((⟨5, ![1, 1, 1, 64, 1]⟩ : Shape).rowMajor.symm.trans windowEquiv.symm) _ _ fun p => ?_
  obtain ⟨y, hy⟩ : ∃ y : Fin 64, (⟨5, ![1, 1, 1, 64, 1]⟩ : Shape).rowMajor.symm p = ix5 0 0 0 y 0 :=
    ⟨_, (windowEquiv.apply_symm_apply _).symm⟩
  have e : ((⟨5, ![1, 1, 1, 64, 1]⟩ : Shape).rowMajor.symm.trans windowEquiv.symm) p = y := by
    show windowEquiv.symm ((⟨5, ![1, 1, 1, 64, 1]⟩ : Shape).rowMajor.symm p) = y
    rw [hy]
    rfl
  rw [e]
  simp only [hy]
  by_cases hc : 63 ≤ c.val + y.val
  · rw [dif_pos hc, dif_pos]
    · refine congrArg x (funext fun a => Fin.ext ?_)
      fin_cases a
      · show b.val * 1 + 0 - 0 = b.val; omega
      · show h.val * 1 + 0 - 0 = h.val; omega
      · show n.val * 1 + 0 - 0 = n.val; omega
      · show c.val * 1 + y.val - 63 = c.val + y.val - 63; omega
      · show d.val * 1 + 0 - 0 = d.val; omega
    · intro a
      fin_cases a
      · show 0 ≤ b.val * 1 + 0 ∧ b.val * 1 + 0 - 0 < 16; omega
      · show 0 ≤ h.val * 1 + 0 ∧ h.val * 1 + 0 - 0 < 4; omega
      · show 0 ≤ n.val * 1 + 0 ∧ n.val * 1 + 0 - 0 < 32; omega
      · show 63 ≤ c.val * 1 + y.val ∧ c.val * 1 + y.val - 63 < 64; omega
      · show 0 ≤ d.val * 1 + 0 ∧ d.val * 1 + 0 - 0 < 64; omega
  · rw [dif_neg hc, dif_neg]
    intro hin
    have := hin 3
    change 63 ≤ c.val * 1 + y.val ∧ c.val * 1 + y.val - 63 < 64 at this
    omega

end Cert.GlaRefIdeal.Chunk

end
-- ==== Proof.RefChunk.lean ====
/- The reference's arrays before its loop over the chunks, as the scalars of the gated linear attention of each head. -/
module

public import proofs.«01_k».proof.Proof.RefRun
public import proofs.«01_k».proof.Proof.Model
public import proofs.«01_k».proof.Proof.Window

@[expose] public section

set_option maxRecDepth 16384

noncomputable section

namespace Cert.GlaRefIdeal.Chunk

open Idealize.ShloMosaic Idealize.ShloMosaic.TcCoe
open Cert.GlaRefIdeal Cert.GlaRefIdeal.Gen Cert.GlaRefIdeal.Step Cert.Gated

variable (a0 a1 : (⟨S16x2048x256, .bf16⟩ : BufTy).Contents (Elt Ideal)) (a2 : (⟨S16x2048x512, .bf16⟩ : BufTy).Contents (Elt Ideal))
  (a3 : (⟨S16x2048x16, .f32⟩ : BufTy).Contents (Elt Ideal)) (a4 : (⟨S16x2048x512, .bf16⟩ : BufTy).Contents (Elt Ideal))
  (a5 : (⟨S16x256, .f32⟩ : BufTy).Contents (Elt Ideal)) (a6 : (⟨S256, .f32⟩ : BufTy).Contents (Elt Ideal)) (a7 : (⟨S128, .f32⟩ : BufTy).Contents (Elt Ideal))
  (b : Fin 16) (h : Fin 4) (n : Fin 32)

/-- The arguments' head. -/
abbrev hd : Head := headAt a0 a1 a2 a3 a4 a5 a6 a7 b h

/-! ## Before the loop -/

/-- The host's logarithm of the logistic function, over the temperature. -/
theorem tempered_host (z : EReal) :
    Ideal.div (-if -z ≠ -z then -z else max (-z) 0 + Ideal.log1p (Ideal.exp (-FloatOps.absf (F := Ideal) (φ := .f32) (-z)))) (Ideal.ofBits .f32 0x41800000#32)
      = tempered z := by
  unfold tempered
  have ha : FloatOps.absf (F := Ideal) (φ := .f32) (-z) = FloatOps.absf (F := Ideal) (φ := .f32) z := by
    show max (-z) (- -z) = max z (-z)
    rw [neg_neg, max_comm]
  rw [if_neg (fun hne => hne rfl), ha]
  simp only [zero_sub]
  rfl

/-- The log decays. -/
theorem logdecay_at (s : Fin 2048) (d : Fin 64) :
    A_main_v23 a0 a1 a2 a3 a5 a6 (ix3 b s (col h d)) = tempered (gate (hd a0 a1 a2 a3 a4 a5 a6 a7 b h) s d) := by
  refine Eq.trans ?_ (tempered_host _)
  unfold A_main_v23 A_main_v21 A_main_v20 A_main_v19 A_main_v18 A_main_v17 A_main_v16 A_main_v15 A_main_v14 A_main_v12 A_main_v11
    A_main_v9 A_main_v7 A_main_v6 A_main_v5 A_main_v4 A_main_v3 K_main_v8 K_main_v10 K_main_v13 K_main_v22 K_main_cst_0 K_main_cst
  pointwise
  rfl

/-- Position `x` of chunk `n`. -/
theorem row_eq (x : Fin 64) (hx) : (⟨n.val * 64 + x.val, hx⟩ : Fin 2048) = row n.val x :=
  Fin.ext (by rw [row_val n.isLt]; show n.val * 64 + x.val = _; omega)

/-- The log decays by chunk. -/
theorem chunked_at (x d : Fin 64) :
    A_main_v33 a0 a1 a2 a3 a5 a6 (ix5 b h n x d) = tempered (gate (hd a0 a1 a2 a3 a4 a5 a6 a7 b h) (row n.val x) d) := by
  refine Eq.trans ?_ (logdecay_at a0 a1 a2 a3 a4 a5 a6 a7 b h (row n.val x) d)
  unfold A_main_v33 A_main_v32
  generalize A_main_v23 a0 a1 a2 a3 a5 a6 = X
  pointwise
  rw [row_eq]
  rfl

/-- Their running sums. -/
theorem cum_at (c d : Fin 64) : A_main_v34 a0 a1 a2 a3 a5 a6 (ix5 b h n c d) = cum (hd a0 a1 a2 a3 a4 a5 a6 a7 b h) n.val c d := by
  unfold A_main_v34
  refine (cumsum_at _ _ (fun i => ?_) _ _ b h n c d).trans ?_
  · unfold K_main_call0_call0_v0 K_main_call0_call0_cst
    pointwise
  · simp only [chunked_at a0 a1 a2 a3 a4 a5 a6 a7]
    rfl

/-- The decayed queries. -/
theorem query_at (c d : Fin 64) : A_main_v37 a0 a1 a2 a3 a5 a6 (ix5 b h n c d) = query (hd a0 a1 a2 a3 a4 a5 a6 a7 b h) n.val c d := by
  unfold query
  rw [← cum_at]
  unfold A_main_v37 A_main_v36 A_main_v27 A_main_v25 A_main_v24 A_main_v0 K_main_v26 K_main_cst_1
  generalize A_main_v34 a0 a1 a2 a3 a5 a6 = Y
  pointwise
  rw [row_eq]
  rfl

/-- The keys. -/
theorem key_at (c d : Fin 64) : A_main_v29 a0 a1 a2 a3 a5 a6 (ix5 b h n c d) = (hd a0 a1 a2 a3 a4 a5 a6 a7 b h).k (row n.val c) d := by
  unfold A_main_v29 A_main_v28 A_main_v1
  pointwise
  rw [row_eq]
  rfl

/-- The values. -/
theorem value_at (c : Fin 64) (e : Fin 128) : A_main_v31 a0 a1 a2 a3 a5 a6 (ix5 b h n c e) = (hd a0 a1 a2 a3 a4 a5 a6 a7 b h).v (row n.val c) e := by
  unfold A_main_v31 A_main_v30 A_main_v2
  pointwise
  rw [row_eq]
  rfl

/-- The comparison of two positions of a chunk. -/
theorem ge_word : ∀ c x : Fin 64, Scalar.select (IntOp.cmpi CmpIPredicate.sge (IntOp.addi (BitVec.ofNat 32 c.val) 0#32) (BitVec.ofNat 32 x.val)) 1#1 0#1
    = if x ≤ c then 1#1 else 0#1 := by
  decide +kernel

/-- A selection by it. -/
theorem select_ge {α : Type} (x c : Fin 64) (a b : α) :
    Scalar.select (Scalar.select (IntOp.cmpi CmpIPredicate.sge (IntOp.addi (BitVec.ofNat 32 c.val) 0#32) (BitVec.ofNat 32 x.val)) 1#1 0#1) a b
      = if x ≤ c then a else b := by
  rw [ge_word]
  by_cases h : x ≤ c
  · simp only [if_pos h]; rfl
  · simp only [if_neg h]; rfl

/-- What a position attends to inside its chunk. -/
theorem intra_at (c : Fin 64) (e : Fin 128) : A_main_v57 a0 a1 a2 a3 a5 a6 (ix5 n b h c e)
    = ∑ x, if x ≤ c then score (hd a0 a1 a2 a3 a4 a5 a6 a7 b h) n.val c x * (hd a0 a1 a2 a3 a4 a5 a6 a7 b h).v (row n.val x) e else 0 := by
  have hq := query_at a0 a1 a2 a3 a4 a5 a6 a7 b h n
  have hc := cum_at a0 a1 a2 a3 a4 a5 a6 a7 b h n
  have hk := key_at a0 a1 a2 a3 a4 a5 a6 a7 b h n
  have hv := value_at a0 a1 a2 a3 a4 a5 a6 a7 b h n
  unfold A_main_v57 A_main_v49 A_main_v48 A_main_v47 A_main_v40 A_main_v39 A_main_v38 K_main_call2_v1 K_main_call2_v2 K_main_call2_v0
    K_main_cst_2 K_main_v46 K_main_v45 K_main_c K_main_call1_v4 K_main_call1_v5 K_main_call1_v3 K_main_call1_v2 K_main_call1_v1
    K_main_call1_v0 K_main_call1_c K_main_call1_c_0
  generalize A_main_v37 a0 a1 a2 a3 a5 a6 = X at *
  generalize A_main_v34 a0 a1 a2 a3 a5 a6 = Y at *
  generalize A_main_v29 a0 a1 a2 a3 a5 a6 = Z at *
  generalize A_main_v31 a0 a1 a2 a3 a5 a6 = W at *
  pointwise
  refine Finset.sum_congr rfl fun x _ => ?_
  rw [select_ge, hv]
  by_cases hx : x ≤ c
  · rw [if_pos hx, if_pos hx]
    unfold score
    simp only [hq, hk, hc, zero_sub]
  · rw [if_neg hx, if_neg hx, show (id (constant (F := Ideal) S_ FTy.f32 0#32) ix0 : EReal) = 0 from Ideal.ofBits_zero_f32, zero_mul]

/-- What a chunk adds to the state. -/
theorem update_at (d : Fin 64) (e : Fin 128) : A_main_v55 a0 a1 a2 a3 a5 a6 (ix5 n b h d e)
    = ∑ x, (hd a0 a1 a2 a3 a4 a5 a6 a7 b h).v (row n.val x) e * ((hd a0 a1 a2 a3 a4 a5 a6 a7 b h).k (row n.val x) d
        * Ideal.exp (cum (hd a0 a1 a2 a3 a4 a5 a6 a7 b h) n.val 63 d - cum (hd a0 a1 a2 a3 a4 a5 a6 a7 b h) n.val x d)) := by
  have hc := cum_at a0 a1 a2 a3 a4 a5 a6 a7 b h n
  have hk := key_at a0 a1 a2 a3 a4 a5 a6 a7 b h n
  have hv := value_at a0 a1 a2 a3 a4 a5 a6 a7 b h n
  unfold A_main_v55 A_main_v50 A_main_v44 A_main_v43 A_main_v42 A_main_v41 A_main_v35
  generalize A_main_v34 a0 a1 a2 a3 a5 a6 = Y at *
  generalize A_main_v29 a0 a1 a2 a3 a5 a6 = Z at *
  generalize A_main_v31 a0 a1 a2 a3 a5 a6 = W at *
  pointwise
  refine Finset.sum_congr rfl fun x _ => ?_
  rw [hv, hk, hc, hc]
  exact mul_comm _ _

/-- How much of the state a chunk keeps. -/
theorem keep_at (d : Fin 64) : A_main_v54 a0 a1 a2 a3 a5 a6 (ix4 n b h d) = Ideal.exp (cum (hd a0 a1 a2 a3 a4 a5 a6 a7 b h) n.val 63 d) := by
  rw [← cum_at]
  unfold A_main_v54 A_main_v52 A_main_v51 A_main_v35
  generalize A_main_v34 a0 a1 a2 a3 a5 a6 = Y
  pointwise

/-- The decayed queries, by chunk. -/
theorem queries_at (c d : Fin 64) : A_main_v56 a0 a1 a2 a3 a5 a6 (ix5 n b h c d) = query (hd a0 a1 a2 a3 a4 a5 a6 a7 b h) n.val c d := by
  rw [← query_at]
  unfold A_main_v56
  generalize A_main_v37 a0 a1 a2 a3 a5 a6 = Y
  pointwise

end Cert.GlaRefIdeal.Chunk

end
-- ==== Proof.RefTrip.lean ====
/- One trip of the reference's loop: what it reads of the chunk's arrays, the state it leaves and the outputs it writes. -/
module

public import proofs.«01_k».proof.Proof.RefChunk
public import Idealize.ShloMosaic.Lib.DynamicIndex
public import Idealize.ShloMosaic.Lib.WordCmp

@[expose] public section

set_option maxRecDepth 16384

noncomputable section

namespace Cert.GlaRefIdeal.Chunk

open Idealize.ShloMosaic Idealize.ShloMosaic.TcCoe
open Cert.GlaRefIdeal Cert.GlaRefIdeal.Gen Cert.GlaRefIdeal.Step Cert.GlaRefIdeal.Carried Cert.Gated

/-! ## One trip -/

/-- The count read as an index. -/
theorem count (j : Fin 32) : ((constantI S_ 32 (BitVec.ofNat 32 j.val) : (⟨S_, .i32⟩ : BufTy).Contents (Elt Ideal)) (Shape.Idx.first h_S_)).toInt = (j.val : Int) := by
  show (BitVec.ofNat 32 j.val).toInt = _
  revert j
  decide +kernel

variable (st : State Ideal) (j : Fin 32) (b : Fin 16) (h : Fin 4)

/-- What trip `j` reads of the kept parts. -/
theorem keepSlice_at (d : Fin 64) : b4 j.val st (ix3 b h d) = st.main_v59_0 (ix4 j b h d) := by
  unfold b4 b3
  rw [Host.dynamicSlice_eq_extractStridedSlice _ _ _ ![j.val, 0, 0, 0] _ (by refine ⟨rfl, fun a => ?_⟩; fin_cases a <;> simp <;> omega)
    (fun a => by fin_cases a; exacts [count j, rfl, rfl, rfl])]
  generalize st.main_v59_0 = X
  pointwise

/-- What trip `j` reads of the updates. -/
theorem updateSlice_at (x : Fin 64) (y : Fin 128) : b10 j.val st (ix4 b h x y) = st.main_v59_1 (ix5 j b h x y) := by
  unfold b10 b9
  rw [Host.dynamicSlice_eq_extractStridedSlice _ _ _ ![j.val, 0, 0, 0, 0] _ (by refine ⟨rfl, fun a => ?_⟩; fin_cases a <;> simp <;> omega)
    (fun a => by fin_cases a; exacts [count j, rfl, rfl, rfl, rfl])]
  generalize st.main_v59_1 = X
  pointwise

/-- What trip `j` reads of the queries. -/
theorem querySlice_at (x : Fin 64) (y : Fin 64) : b16 j.val st (ix4 b h x y) = st.main_v59_2 (ix5 j b h x y) := by
  unfold b16 b15
  rw [Host.dynamicSlice_eq_extractStridedSlice _ _ _ ![j.val, 0, 0, 0, 0] _ (by refine ⟨rfl, fun a => ?_⟩; fin_cases a <;> simp <;> omega)
    (fun a => by fin_cases a; exacts [count j, rfl, rfl, rfl, rfl])]
  generalize st.main_v59_2 = X
  pointwise

/-- What trip `j` reads of the attention inside the chunks. -/
theorem intraSlice_at (x : Fin 64) (y : Fin 128) : b22 j.val st (ix4 b h x y) = st.main_v59_3 (ix5 j b h x y) := by
  unfold b22 b21
  rw [Host.dynamicSlice_eq_extractStridedSlice _ _ _ ![j.val, 0, 0, 0, 0] _ (by refine ⟨rfl, fun a => ?_⟩; fin_cases a <;> simp <;> omega)
    (fun a => by fin_cases a; exacts [count j, rfl, rfl, rfl, rfl])]
  generalize st.main_v59_3 = X
  pointwise

/-- The state a trip leaves. -/
theorem carried_at (d : Fin 64) (e : Fin 128) :
    b26 j.val st (ix4 b h d e) = st.main_v59_0 (ix4 j b h d) * st.main_v59_5 (ix4 b h d e) + st.main_v59_1 (ix5 j b h d e) := by
  have h4 := keepSlice_at st j b h
  have h10 := updateSlice_at st j b h
  unfold b26 b25 b24 b23
  generalize b4 j.val st = X at *
  generalize b10 j.val st = Y at *
  pointwise
  rw [h4, h10]

/-- The outputs a trip writes. -/
theorem written_at (c : Fin 64) (e : Fin 128) : b28 j.val st (ix4 b h c e)
    = st.main_v59_3 (ix5 j b h c e) + ∑ d, st.main_v59_2 (ix5 j b h c d) * st.main_v59_5 (ix4 b h d e) := by
  have h16 := querySlice_at st j b h
  have h22 := intraSlice_at st j b h
  unfold b28 b27
  generalize b16 j.val st = X at *
  generalize b22 j.val st = Y at *
  pointwise
  simp only [h16, h22]

/-- The outputs after a trip. -/
theorem outs_at (n : Fin 32) (c : Fin 64) (e : Fin 128) : b34 j.val st (ix5 n b h c e)
    = if n = j then b28 j.val st (ix4 b h c e) else st.main_v59_6 (ix5 n b h c e) := by
  unfold b34 b29
  rw [WordCmp.dynamicUpdateSlice_eq_update _ _ _ _ ![j.val, 0, 0, 0, 0] (by refine ⟨rfl, fun a => ?_⟩; fin_cases a <;> simp <;> omega)
    (fun a => by fin_cases a; exacts [count j, rfl, rfl, rfl, rfl])]
  generalize b28 j.val st = Y
  generalize st.main_v59_6 = X
  pointwise
  exact ite_congr (propext ⟨fun hh => Fin.ext (by omega), fun hh => by subst hh; omega⟩) (fun _ => rfl) fun _ => rfl

end Cert.GlaRefIdeal.Chunk

end
-- ==== Proof.RefLoop.lean ====
/- The reference's loop: the state before each chunk, the outputs of the chunks before, and the result made of them. -/
module

public import proofs.«01_k».proof.Proof.RefTrip

@[expose] public section

set_option maxRecDepth 16384

noncomputable section

namespace Cert.GlaRefIdeal.Chunk

open Idealize.ShloMosaic Idealize.ShloMosaic.TcCoe
open Cert.GlaRefIdeal Cert.GlaRefIdeal.Gen Cert.GlaRefIdeal.Step Cert.GlaRefIdeal.Carried Cert.Gated

variable (b : Fin 16) (h : Fin 4)

/-! ## The loop -/

variable (a0 a1 : (⟨S16x2048x256, .bf16⟩ : BufTy).Contents (Elt Ideal)) (a2 : (⟨S16x2048x512, .bf16⟩ : BufTy).Contents (Elt Ideal))
  (a3 : (⟨S16x2048x16, .f32⟩ : BufTy).Contents (Elt Ideal)) (a4 : (⟨S16x2048x512, .bf16⟩ : BufTy).Contents (Elt Ideal))
  (a5 : (⟨S16x256, .f32⟩ : BufTy).Contents (Elt Ideal)) (a6 : (⟨S256, .f32⟩ : BufTy).Contents (Elt Ideal)) (a7 : (⟨S128, .f32⟩ : BufTy).Contents (Elt Ideal))

/-- The state of the loop before trip `k`. -/
abbrev before (k : ℕ) : State Ideal := states (init a0 a1 a2 a3 a5 a6) k

/-- The trips leave what they only read. -/
theorem kept (k : ℕ) : (before a0 a1 a2 a3 a5 a6 k).main_v59_0 = A_main_v54 a0 a1 a2 a3 a5 a6
    ∧ (before a0 a1 a2 a3 a5 a6 k).main_v59_1 = A_main_v55 a0 a1 a2 a3 a5 a6
    ∧ (before a0 a1 a2 a3 a5 a6 k).main_v59_2 = A_main_v56 a0 a1 a2 a3 a5 a6
    ∧ (before a0 a1 a2 a3 a5 a6 k).main_v59_3 = A_main_v57 a0 a1 a2 a3 a5 a6 := by
  induction k with
  | zero => exact ⟨rfl, rfl, rfl, rfl⟩
  | succ k ih => exact ih

/-- The carried value before trip `k` is the state before chunk `k`. -/
theorem state_at (k : ℕ) (hk : k ≤ 32) (d : Fin 64) (e : Fin 128) :
    (before a0 a1 a2 a3 a5 a6 k).main_v59_5 (ix4 b h d e) = state (hd a0 a1 a2 a3 a4 a5 a6 a7 b h) k d e := by
  induction k with
  | zero =>
    show K_main_v53 (F := Ideal) (ix4 b h d e) = 0
    unfold K_main_v53 K_main_cst_3
    pointwise
  | succ k ih =>
    obtain ⟨h0, h1, -, -⟩ := kept a0 a1 a2 a3 a5 a6 k
    show b26 k (before a0 a1 a2 a3 a5 a6 k) (ix4 b h d e) = _
    refine (carried_at (before a0 a1 a2 a3 a5 a6 k) ⟨k, by omega⟩ b h d e).trans ?_
    rw [h0, h1, keep_at a0 a1 a2 a3 a4 a5 a6 a7, update_at a0 a1 a2 a3 a4 a5 a6 a7, ih (by omega), mul_comm]
    rfl

/-- What trip `k` writes. -/
theorem mix_at (k : Fin 32) (c : Fin 64) (e : Fin 128) :
    b28 k.val (before a0 a1 a2 a3 a5 a6 k.val) (ix4 b h c e) = mix (hd a0 a1 a2 a3 a4 a5 a6 a7 b h) k.val c e := by
  obtain ⟨-, -, h2, h3⟩ := kept a0 a1 a2 a3 a5 a6 k.val
  refine (written_at _ k b h c e).trans ?_
  rw [h2, h3]
  simp only [queries_at a0 a1 a2 a3 a4 a5 a6 a7, intra_at a0 a1 a2 a3 a4 a5 a6 a7, state_at b h a0 a1 a2 a3 a4 a5 a6 a7 k.val k.isLt.le]
  rfl

/-- The outputs before trip `k`: those of the chunks before. -/
theorem mixes_at (k : ℕ) (hk : k ≤ 32) (n : Fin 32) (hn : n.val < k) (c : Fin 64) (e : Fin 128) :
    (before a0 a1 a2 a3 a5 a6 k).main_v59_6 (ix5 n b h c e) = mix (hd a0 a1 a2 a3 a4 a5 a6 a7 b h) n.val c e := by
  induction k with
  | zero => exact absurd hn (Nat.not_lt_zero _)
  | succ k ih =>
    show b34 k (before a0 a1 a2 a3 a5 a6 k) (ix5 n b h c e) = _
    refine (outs_at (before a0 a1 a2 a3 a5 a6 k) ⟨k, by omega⟩ b h n c e).trans ?_
    by_cases hnk : n = ⟨k, by omega⟩
    · rw [if_pos hnk, congrArg Fin.val hnk]
      exact mix_at b h a0 a1 a2 a3 a4 a5 a6 a7 ⟨k, by omega⟩ c e
    · rw [if_neg hnk]
      exact ih (by omega) (by have : n.val ≠ k := fun hh => hnk (Fin.ext hh); omega)

/-- The reference's result. -/
theorem result : R_main_v80 (before a0 a1 a2 a3 a5 a6 32) a4 a7 = outAt a0 a1 a2 a3 a4 a5 a6 a7 := by
  funext y
  obtain ⟨b, h, s, e, rfl⟩ : ∃ (b : Fin 16) (h : Fin 4) (s : Fin 2048) (e : Fin 128), y = ix4 b h s e :=
    ⟨y 0, y 1, y 2, y 3, by funext a; fin_cases a <;> rfl⟩
  have hm : ∀ (n : Fin 32) (c : Fin 64) (e : Fin 128), (before a0 a1 a2 a3 a5 a6 32).main_v59_6 (ix5 n b h c e)
      = mix (hd a0 a1 a2 a3 a4 a5 a6 a7 b h) n.val c e := fun n => mixes_at b h a0 a1 a2 a3 a4 a5 a6 a7 32 le_rfl n n.isLt
  generalize before a0 a1 a2 a3 a5 a6 32 = st at *
  show _ = out (hd a0 a1 a2 a3 a4 a5 a6 a7 b h) (s.val / 64) ⟨s.val % 64, Nat.mod_lt _ (by decide)⟩ e
  unfold out
  rw [row_divmod]
  unfold R_main_v80
  pointwise
  simp only [hm]
  rfl

end Cert.GlaRefIdeal.Chunk

end
-- ==== Proof.GlaClaims.lean ====
/- The gated linear attention's claims: both programs' results are the gated linear attention of the arguments, and the
   frames. -/
module

public import proofs.«01_k».proof.Defs
public import proofs.«01_k».proof.Proof.Gen.Gla.Frame
public import proofs.«01_k».proof.Proof.Gen.GlaIdeal.Frame
public import proofs.«01_k».proof.Proof.KArray
public import proofs.«01_k».proof.Proof.RefLoop
public import Idealize.ShloMosaic.Adequacy
public import Idealize.ShloMosaic.Init

@[expose] public section

set_option maxRecDepth 16384

noncomputable section

namespace Cert.GlaClaims

open Idealize.ShloMosaic Idealize.SL.Sem Cert.Gated

/-- The frame of the kernel at the bit-exact instance. -/
theorem frame_kernel : Cert.quiescent_Gla := fun m ρ _ => Cert.Gla.Gen.frame m ρ

/-- The frame of the kernel at the ideal instance. -/
theorem frame_ideal : Cert.quiescent_GlaIdeal := fun m ρ _ => Cert.GlaIdeal.Gen.frame m ρ

/-- The frame of the reference: it ends with its arguments unchanged, and it has no semaphore. -/
theorem frame_reference : Cert.quiescent_GlaRefIdeal := fun m ρ _ =>
  (θ_run Cert.GlaRefIdeal.defs _ _).mono (fun r h => ⟨fun c => (h c).2, sem_eq_zero_of_no_sems (by decide) r.2⟩)
    (Cert.GlaRefIdeal.Carried.run (F := Ideal) m ρ)

/-- The gated linear attention of the kernel's arguments on device `c`. -/
def answer (m : (ℓ : Loc Cert.GlaIdeal.nD Cert.GlaIdeal.τ Cert.GlaIdeal.sig) → Buf (Elt Ideal) ℓ) (c : Dev Cert.GlaIdeal.nD) :
    FVec Ideal ⟨4, ![16, 4, 2048, 128]⟩ .bf16 :=
  outAt (GlaIdeal.Array.A0 m c) (GlaIdeal.Array.A1 m c) (GlaIdeal.Array.A2 m c) (GlaIdeal.Array.A3 m c)
    (GlaIdeal.Array.A4 m c) (GlaIdeal.Array.A5 m c) (GlaIdeal.Array.A6 m c) (GlaIdeal.Array.A7 m c)

/-- Kernel and reference agree: from equal arguments both end with the gated linear attention of them. -/
theorem equal : Cert.algebraic_GlaIdeal_GlaRefIdeal := by
  intro m ρ m' ρ' _ hag
  refine ⟨answer m, ?_, ?_⟩
  · exact (θ_run _ _ _).mono (fun _ h c => ⟨(h c).1.trans (Cert.GlaIdeal.Array.array m c), (h c).2⟩)
      (Cert.GlaIdeal.Value.run_blocks (F := Ideal) m ρ)
  · refine (θ_run _ _ _).mono (fun _ h c => ⟨(h c).1.trans ?_, (h c).2⟩) (Cert.GlaRefIdeal.Carried.run (F := Ideal) m' ρ')
    obtain ⟨h0, h1, h2, h3, h4, h5, h6, h7⟩ := hag c
    refine (Cert.GlaRefIdeal.Chunk.result _ _ _ _ _ _ _ _).trans ?_
    rw [h0, h1, h2, h3, h4, h5, h6, h7]
    rfl

end Cert.GlaClaims

end
-- ==== Proof.MoeBody.lean ====
/- One run of the experts kernel's body: with the block count held in scalar memory, the output block ends at the experts'
   outputs when the block is in use and at zero when it is not. -/
module

public import proofs.«01_k».proof.Proof.Gen.MoeIdeal.Launch
public import proofs.«01_k».proof.Proof.Gen.MoeIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.ValueKit
public import Idealize.ShloMosaic.Lib.VecWindow

@[expose] public section

set_option maxRecDepth 16384

noncomputable section

namespace Cert.MoeIdeal.Experts

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table of experts and the count of blocks, as the body is handed them. -/
abbrev expertsM : Memref sig .tc .smem S544 .i32 := Memref.whole main_arg0
abbrev countM : Memref sig .tc .smem S1 .i32 := Memref.whole main_arg1

/-- A table's buffer on core `c`, and the half of it the body holds. -/
abbrev TableBuf (c : Dev nD) {S : Shape} {e : EltTy} (M : Memref sig .tc .smem S e) : Type := Buf (Elt F) (M.view.loc (c : Thread nD τ))
abbrev tableHeld (c : Dev nD) {S : Shape} {e : EltTy} (M : Memref sig .tc .smem S e) (f : TableBuf (F := F) c M) : sProp 𝕄 :=
  M.view.loc (c : Thread nD τ) ↦{fullShare.right} f

/-- A block is unused exactly when its number is not below the count. -/
theorem unused_iff (i : grid0.Coords) (n : BitVec 32) : k0_cond2 i n = 1#1 ↔ ¬ k0_cond1 i n = 1#1 := by
  unfold k0_cond1 k0_cond2
  generalize BitVec.ofNat 32 (i 0).val = a
  simp only [Scalar.cmpi, Scalar.extui, IntOp.cmpi]
  by_cases h : a.slt n = true
  · have h' : n.sle a = false := by
      rw [BitVec.slt_eq_decide] at h; rw [BitVec.sle_eq_decide]
      simp only [decide_eq_true_eq, decide_eq_false_iff_not] at *; omega
    simp [h, h']
  · have h' : n.sle a = true := by
      rw [BitVec.slt_eq_decide] at h; rw [BitVec.sle_eq_decide]
      simp only [decide_eq_true_eq] at *; omega
    simp [h, h']

/-- A store over a whole memref reads back as its payload, whatever the memref held. -/
theorem read_full_store (v : View sig .tc .vmem S256x1024 .bf16) (f : v.ty.Contents (Elt F))
    (inb : ∀ a, (![0, 0] : Fin 2 → ℕ) a + (![256, 1024] : Fin 2 → ℕ) a ≤ S256x1024.size a) (p : Vec F S256x1024 .bf16) :
    v.read (Elt F) (v.writes (Elt F) f [⟨Rect.unit ![0, 0] ![256, 1024] inb, p⟩]) = p := by
  funext y
  have h := View.read_writes_cons_emb v f (Rect.unit ![0, 0] ![256, 1024] inb) p [] y
  have e : (Rect.unit (s := S256x1024) ![0, 0] ![256, 1024] inb).emb y = y := funext fun a => Fin.ext (by
    show (![0, 0] : Fin 2 → ℕ) a + 1 * (y a).val = (y a).val
    fin_cases a <;> exact (Nat.zero_add _).trans (Nat.one_mul _))
  rwa [e] at h

/-- The block a grid point writes, of the blocks it reads and the count of blocks in use. -/
def blockOut (i : grid0.Coords) (n : BitVec 32) (x : Vec F S256x1024 .bf16) (wg : Vec F S1x1024x2048 .bf16) (bg : Vec F S1x1x2048 .f32)
    (wd : Vec F S1x1024x1024 .bf16) (bd : Vec F S1x1x1024 .f32) (g : Vec F S256x1 .f32) : Vec F S256x1024 .bf16 :=
  if k0_cond1 i n = 1#1 then k0_pay2 x wg bg wd bd g else k0_pay1

/-- The count of blocks, as the body loads it. -/
def countOf (c : Dev nD) (xt : TableBuf (F := F) c countM) : BitVec 32 := (xt : S1.Idx → BitVec 32) (ix1 0)

set_option maxHeartbeats 1000000 in
/-- The body leaves the blocks it reads and the tables as they are and its output at `blockOut`. -/
theorem body_run (c : Dev nD) (i : grid0.Coords) (h1 : expertsM.IsWhole) (h2 : countM.IsWhole)
    (a3 : Memref sig .tc .vmem S256x1024 .bf16) (h3 : a3.IsWhole) (a4 : Memref sig .tc .vmem S1x1024x2048 .bf16) (h4 : a4.IsWhole)
    (a5 : Memref sig .tc .vmem S1x1x2048 .f32) (h5 : a5.IsWhole) (a6 : Memref sig .tc .vmem S1x1024x1024 .bf16) (h6 : a6.IsWhole)
    (a7 : Memref sig .tc .vmem S1x1x1024 .f32) (h7 : a7.IsWhole) (a8 : Memref sig .tc .vmem S256x1 .f32) (h8 : a8.IsWhole)
    (a9 : Memref sig .tc .vmem S256x1024 .bf16) (h9 : a9.IsWhole)
    (x : Vec F S256x1024 .bf16) (wg : Vec F S1x1024x2048 .bf16) (bg : Vec F S1x1x2048 .f32)
    (wd : Vec F S1x1024x1024 .bf16) (bd : Vec F S1x1x1024 .f32) (g : Vec F S256x1 .f32)
    (be : TableBuf (F := F) c expertsM) (nb : TableBuf (F := F) c countM) (E : Set ℕ) (K : PUnit → sProp 𝕄) :
    iprop(owns (c : Thread nD τ) a3 fullShare x ∗ owns (c : Thread nD τ) a4 fullShare wg ∗ owns (c : Thread nD τ) a5 fullShare bg
        ∗ owns (c : Thread nD τ) a6 fullShare wd ∗ owns (c : Thread nD τ) a7 fullShare bd ∗ owns (c : Thread nD τ) a8 fullShare g
        ∗ (∃ d, owns (c : Thread nD τ) a9 fullShare d) ∗ tableHeld c expertsM be ∗ tableHeld c countM nb
        ∗ (iprop(owns (c : Thread nD τ) a3 fullShare x ∗ owns (c : Thread nD τ) a4 fullShare wg ∗ owns (c : Thread nD τ) a5 fullShare bg
            ∗ owns (c : Thread nD τ) a6 fullShare wd ∗ owns (c : Thread nD τ) a7 fullShare bd ∗ owns (c : Thread nD τ) a8 fullShare g
            ∗ owns (c : Thread nD τ) a9 fullShare (blockOut i (countOf c nb) x wg bg wd bd g)
            ∗ tableHeld c expertsM be ∗ tableHeld c countM nb) -∗ K ⟨⟩))
      ⊢ wp frame (wpE (defs₀ (F := F)) Variants.none c none) E
          (cc0_moe_experts i expertsM h1 countM h2 a3 h3 a4 h4 a5 h5 a6 h6 a7 h7 a8 h8 a9 h9) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT0, HT1, Hk⟩
  obtain rfl := h3.eq_unread hf0; obtain rfl := h4.eq_unread hf1; obtain rfl := h5.eq_unread hf2; obtain rfl := h6.eq_unread hf3; obtain rfl := h7.eq_unread hf4; obtain rfl := h8.eq_unread hf5
  sl_exec
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr; · ipureintro; exact h8.read_unread _
    iexact H5
  isplitl [H6]
  · iexists _; isplitr
    swap; · iexact H6
    ipureintro
    have hn : body_run.sl.r c nb = countOf c nb := by
      unfold body_run.sl.r
      show (nb : S1.Idx → BitVec 32) _ = (nb : S1.Idx → BitVec 32) (ix1 0)
      refine congrArg (nb : S1.Idx → BitVec 32) (funext fun a => Fin.ext ?_)
      have h1 : ∀ k : S1.Idx, (k a).val = 0 := fun k => by
        have := (k a).isLt
        obtain ⟨a, ha⟩ := a
        obtain rfl : a = 0 := by change a < 1 at ha; omega
        change (k _).val < 1 at this
        omega
      rw [h1, h1]
    have hp : body_run.sl.r_1 c a3 h3 a4 h4 a5 h5 a6 h6 a7 h7 a8 h8 x wg bg wd bd g = k0_pay2 x wg bg wd bd g := by
      unfold body_run.sl.r_1
      rw [View.readAt_full, View.readAt_full, View.readAt_full, View.readAt_full, View.readAt_full, View.readAt_full,
        h3.read_unread, h4.read_unread, h5.read_unread, h6.read_unread, h7.read_unread, h8.read_unread]
    rw [hn, hp]
    unfold blockOut
    by_cases hc : k0_cond1 i (countOf c nb) = 1#1
    · rw [dif_neg (fun h => (unused_iff i _).mp h hc), dif_pos hc, if_pos hc]
      exact read_full_store _ _ _ _
    · rw [dif_pos ((unused_iff i _).mpr hc), dif_neg hc, if_neg hc]
      exact read_full_store _ _ _ _
  isplitl [HT0]; · iexact HT0
  iexact HT1

end Cert.MoeIdeal.Experts

end
-- ==== Proof.MoeFrame.lean ====
/- The experts kernel as a whole program: whatever the tables hold, as long as they name experts, every execution ends
   with the arguments as they were, the semaphores at zero and each block of the result at `blockOut`. -/
module

public import proofs.«01_k».proof.Proof.MoeBody
public import Idealize.ShloMosaic.Lib.Claim
public import Idealize.ShloMosaic.Lib.Pipeline.Kit

@[expose] public section

set_option maxRecDepth 16384

noncomputable section

namespace Cert.MoeIdeal.Experts

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the pipeline finds -/

/-- Core `c`'s buffers after the casts and reshapes that come before the pipeline. -/
abbrev V (c : Dev nD) (b : Ref sig .tc) : Buf (Elt F) ((c : Thread nD τ).loc b) := StableHlo.after hostOps0 (fun b => m (c, b)) b

/-- The casts and reshapes make no buffers. -/
theorem host_fresh : (hostOps0 : List (HloOp τ sig (Elt F))).Forall fun op => op.fresh = ∅ := by
  simp only [List.Forall]; repeat' constructor

set_option maxHeartbeats 800000 in
/-- The program is those operations followed by the pipeline. -/
theorem main_prefix (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- A buffer that is none of the five the casts and reshapes write is found as it was launched. -/
theorem V_kept (c : Dev nD) (b : Ref sig .tc) (h0 : b ≠ main_v0) (h1 : b ≠ main_v1) (h2 : b ≠ main_v2) (h3 : b ≠ main_v3)
    (h4 : b ≠ main_v4) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append, List.Forall,
      StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

/-! ## The tables -/

/-- What the two tables hold. -/
def tbl : pre0.Contents (Elt F) := fun j => V m (0 : Dev nD) (pre0.ref j)

/-- Every core finds the same tables: there is one. -/
theorem V_tbl (c : Dev nD) (j : Fin 2) : V m c (pre0.ref j) = tbl m j := by
  obtain rfl : c = 0 := Subsingleton.elim _ _; rfl

/-- The tables name blocks inside the arrays. -/
abbrev Ok : Prop := ok0 (F := F) (tbl m)

/-- The pipeline at these tables. -/
abbrev adm (hO : Ok m) : (pcfg0 (F := F)).Adm := ⟨tbl m, hO⟩
abbrev cfgM (hO : Ok m) : Pipeline.Cfg sig Λ₀ := cfg0 (adm m hO)

/-- What the pipeline lends the body of the tables, one by one. -/
theorem tables_eq (c : Dev nD) :
    (Pipeline.ΦT pre0 (tbl m) c : sProp 𝕄) = iprop(tableHeld c expertsM (tbl m 0) ∗ tableHeld c countM (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows -/

/-- Window `w`'s block at point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The block of the result written at point `t`. -/
def outAt (hO : Ok m) (c : Dev nD) (t : Fin (cfgM m hO).N) : Vec F S256x1024 .bf16 :=
  blockOut (grid0.coords t) (countOf c (tbl m 1)) (iblk m hO c 0 t) (iblk m hO c 1 t) (iblk m hO c 2 t) (iblk m hO c 3 t)
    (iblk m hO c 4 t) (iblk m hO c 5 t)

/-- The pipeline's data: the inputs' buffers keep their blocks, the output's ends at `outAt`, and the tables are lent. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outAt m hO c t
  Φ _ := iprop(Pipeline.ΦA spec0 c ∗ Pipeline.ΦT pre0 (tbl m) c)
  q _ := fullShare
  owed _ := 0

theorem dats_A (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = outAt m hO c t := by dsimp only [dats]; try rfl

/-! Each input's buffer holds its block at every point, fetched there or kept from the point before. -/

theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after_0]; unfold Dat.blockOf iblk; rw [dats_A]; try rfl) t d).trans (by unfold Dat.fetched Dat.blockOf iblk; rw [dats_A]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after_1]; unfold Dat.blockOf iblk; rw [dats_A]; try rfl) t d).trans (by unfold Dat.fetched Dat.blockOf iblk; rw [dats_A]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after_2]; unfold Dat.blockOf iblk; rw [dats_A]; try rfl) t d).trans (by unfold Dat.fetched Dat.blockOf iblk; rw [dats_A]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after_3]; unfold Dat.blockOf iblk; rw [dats_A]; try rfl) t d).trans (by unfold Dat.fetched Dat.blockOf iblk; rw [dats_A]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl)
    (fun t => by rw [after_4]; unfold Dat.blockOf iblk; rw [dats_A]; try rfl) t d).trans (by unfold Dat.fetched Dat.blockOf iblk; rw [dats_A]; try rfl)
theorem before_5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl)
    (fun t => by rw [after_5]; unfold Dat.blockOf iblk; rw [dats_A]; try rfl) t d).trans (by unfold Dat.fetched Dat.blockOf iblk; rw [dats_A]; try rfl)

/-! ## The body at a point -/

/-- Each window's staging memref at point `t`. -/
abbrev st0 (hO : Ok m) (t : Fin (cfgM m hO).N) : Memref sig .tc .vmem S256x1024 .bf16 := spec0_0.stage ((cfgM m hO).slots t 0)
abbrev st1 (hO : Ok m) (t : Fin (cfgM m hO).N) : Memref sig .tc .vmem S1x1024x2048 .bf16 := spec0_1.stage ((cfgM m hO).slots t 1)
abbrev st2 (hO : Ok m) (t : Fin (cfgM m hO).N) : Memref sig .tc .vmem S1x1x2048 .f32 := spec0_2.stage ((cfgM m hO).slots t 2)
abbrev st3 (hO : Ok m) (t : Fin (cfgM m hO).N) : Memref sig .tc .vmem S1x1024x1024 .bf16 := spec0_3.stage ((cfgM m hO).slots t 3)
abbrev st4 (hO : Ok m) (t : Fin (cfgM m hO).N) : Memref sig .tc .vmem S1x1x1024 .f32 := spec0_4.stage ((cfgM m hO).slots t 4)
abbrev st5 (hO : Ok m) (t : Fin (cfgM m hO).N) : Memref sig .tc .vmem S256x1 .f32 := spec0_5.stage ((cfgM m hO).slots t 5)
abbrev st6 (hO : Ok m) (t : Fin (cfgM m hO).N) : Memref sig .tc .vmem S256x1024 .bf16 := spec0_6.stage ((cfgM m hO).slots t 6)

/-- The body as the pipeline calls it at point `t`. -/
abbrev bodyAt (hO : Ok m) (t : Fin (cfgM m hO).N) : Prog (TpuEff nD τ sig (Elt F) Λ₀ .tc) PUnit :=
  cc0_moe_experts (grid0.coords t) expertsM (Memref.isWhole_whole _) countM (Memref.isWhole_whole _)
    (st0 m hO t) (hstage0_0 (((cfgM m hO).slots t 0).cast nbuf0_0)) (st1 m hO t) (hstage0_1 (((cfgM m hO).slots t 1).cast nbuf0_1))
    (st2 m hO t) (hstage0_2 (((cfgM m hO).slots t 2).cast nbuf0_2)) (st3 m hO t) (hstage0_3 (((cfgM m hO).slots t 3).cast nbuf0_3))
    (st4 m hO t) (hstage0_4 (((cfgM m hO).slots t 4).cast nbuf0_4)) (st5 m hO t) (hstage0_5 (((cfgM m hO).slots t 5).cast nbuf0_5))
    (st6 m hO t) (hstage0_6 (((cfgM m hO).slots t 6).cast nbuf0_6))

/-- What the body is given at point `t`, window by window. -/
def given (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d))
    ∗ (∃ d, owns (c : Thread nD τ) (st4 m hO t) fullShare ((dats m hO 0 c).before 4 t d))
    ∗ (∃ d, owns (c : Thread nD τ) (st5 m hO t) fullShare ((dats m hO 0 c).before 5 t d))
    ∗ (∃ d, owns (c : Thread nD τ) (st6 m hO t) fullShare ((dats m hO 0 c).before 6 t d)))

/-- What it gives back. -/
def returned (hO : Ok m) (c : Dev nD) (t : Fin (cfgM m hO).N) : sProp 𝕄 :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t)
    ∗ owns (c : Thread nD τ) (st4 m hO t) fullShare ((dats m hO 0 c).after 4 t)
    ∗ owns (c : Thread nD τ) (st5 m hO t) fullShare ((dats m hO 0 c).after 5 t)
    ∗ owns (c : Thread nD τ) (st6 m hO t) fullShare ((dats m hO 0 c).after 6 t))

/-- From what it is given the body gives that back. -/
theorem body_at (hO : Ok m) (c : Dev nD) (t : Fin (cfgM m hO).N) :
    given m hO c t ⊢ wp frame (wpE (defs₀ (F := F)) Variants.none c none) Set.univ (bodyAt m hO t) (fun _ => returned m hO c t) := by
  unfold given returned bodyAt
  simp only [before_0, before_1, before_2, before_3, before_4, before_5]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, after_6]
  rw [show (dats m hO 0 c).Φ t.castSucc = iprop(Pipeline.ΦA spec0 c ∗ Pipeline.ΦT pre0 (tbl m) c) from rfl, tables_eq]
  unfold outAt
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ _ _ (iblk m hO c 0 t) (iblk m hO c 1 t) (iblk m hO c 2 t)
    (iblk m hO c 3 t) (iblk m hO c 4 t) (iblk m hO c 5 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HT0]; · iexact HT0
  isplitl [HT1]; · iexact HT1
  iintro ⟨H0, H1, H2, H3, H4, H5, H6, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body label at point `t` is that body. -/
theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The output is stored at every point: the block is in use or it is not. -/
theorem stored (pf : pre0.Contents (Elt F)) (i : grid0.Coords) : idle0 pf 6 i = false := by
  show (!(k0_cond1 i (pf.atD 1 ![0]) == 1#1) && !(k0_cond2 i (pf.atD 1 ![0]) == 1#1)) = false
  generalize pf.atD 1 ![0] = n
  by_cases h : k0_cond1 i n = 1#1
  · rw [h]; rfl
  · rw [(unused_iff i n).mpr h, Bool.and_comm]; rfl

/-- So the output's window is idle at none. -/
theorem never_idle (a : (pcfg0 (F := F)).Adm) (i : grid0.Coords) : (cfg0 a).idle (6 : Fin 7) i = false := stored a.1 i

set_option maxHeartbeats 4000000 in
/-- The pipeline's obligation of the body. -/
theorem body_obligation (hO : Ok m) (c : Dev nD) : BodyObligation (dats (F := F) m hO 0 c) (defs₀ (F := F)) Variants.none () Set.univ := fun t => by
  rw [bigSep_W0, bigSep_W0, body_row m hO, never_idle (adm m hO) ((cfgM m hO).grid.coords t)]
  exact triple_restated (body_at m hO c t) rfl .rfl fun _ => .rfl

/-! ## The program -/

set_option backward.isDefEq.respectTransparency.types false in
/-- Every execution ends, with the arrays at what the pipeline's data say and the semaphores at zero. -/
theorem run_pipeline (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := main_prefix m Variants.none) (hA := dats_A m hO) (hpf := V_tbl m)
    (hΦ := fun _ _ => rfl)

/-- An array no window stages ends as it was launched, unless the casts and reshapes write it. -/
theorem rest_kept (c : Dev nD) (b : Ref sig .tc) (h0 : b ≠ main_v0) (h1 : b ≠ main_v1) (h2 : b ≠ main_v2) (h3 : b ≠ main_v3)
    (h4 : b ≠ main_v4) {x : Buf (Elt F) ((c : Thread nD τ).loc b)} (h : x = V m c b) : x = m ((c : Thread nD τ).loc b) :=
  h.trans (V_kept m c b h0 h1 h2 h3 h4)

/-- The frame and the result: arguments unchanged, the result the pipeline's array, semaphores at zero. -/
theorem run (hO : Ok m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v5) = (dats m hO 0 c).arrAt 6 (cfgM m hO).N)
      ∧ r.2.sem = fun _ => 0) :=
  (θ_run defs _ _).mono (fun _ h => ⟨fun c => ⟨⟨
      rest_kept m c main_arg0 (by decide) (by decide) (by decide) (by decide) (by decide) ((h.1 c).2 main_arg0 (by decide : main_arg0 ∈ Pipeline.restRefs sig spec0)),
      rest_kept m c main_arg1 (by decide) (by decide) (by decide) (by decide) (by decide) ((h.1 c).2 main_arg1 (by decide : main_arg1 ∈ Pipeline.restRefs sig spec0)),
      rest_kept m c main_arg2 (by decide) (by decide) (by decide) (by decide) (by decide) (((h.1 c).1 0).trans (((dats m hO 0 c).arrAt_in 0 rfl _).trans (dats_A m hO c 0))),
      rest_kept m c main_arg3 (by decide) (by decide) (by decide) (by decide) (by decide) ((h.1 c).2 main_arg3 (by decide : main_arg3 ∈ Pipeline.restRefs sig spec0)),
      rest_kept m c main_arg4 (by decide) (by decide) (by decide) (by decide) (by decide) ((h.1 c).2 main_arg4 (by decide : main_arg4 ∈ Pipeline.restRefs sig spec0)),
      rest_kept m c main_arg5 (by decide) (by decide) (by decide) (by decide) (by decide) ((h.1 c).2 main_arg5 (by decide : main_arg5 ∈ Pipeline.restRefs sig spec0)),
      rest_kept m c main_arg6 (by decide) (by decide) (by decide) (by decide) (by decide) ((h.1 c).2 main_arg6 (by decide : main_arg6 ∈ Pipeline.restRefs sig spec0)),
      rest_kept m c main_arg7 (by decide) (by decide) (by decide) (by decide) (by decide) ((h.1 c).2 main_arg7 (by decide : main_arg7 ∈ Pipeline.restRefs sig spec0))⟩,
      (h.1 c).1 6⟩, h.2⟩) (run_pipeline m ρ hO)

/-- The frame alone. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).1, h.2⟩) (run m ρ hO)

/-! ## The tables from the precondition -/

/-- The word of the table of experts at block `i`, as the index maps read it. -/
def word (pf : pre0.Contents (Elt F)) (i : grid0.Coords) : BitVec 32 := (pf 0 : S544.Idx → BitVec 32) (ix1 (i 0))

/-- The index maps of the weights' windows name the expert of the block. -/
theorem transform_1_eq (pf : pre0.Contents (Elt F)) (i : grid0.Coords) :
    cc0_transform_1 k0_off1_inb numel1_S1 pf i = ![(word pf i).toNat, 0, 0] := by
  have h : (pf.at 0 (Rect.unit (s := S544) ![(Scalar.indexCast (BitVec.ofNat 32 (i 0).val)).toNat] S1.size (k0_off1_inb i)) numel1_S1 : BitVec 32)
      = word pf i := by
    unfold word Pipeline.Prefetch.Contents.at
    refine congrArg (pf 0 : S544.Idx → BitVec 32) (funext fun a => Fin.ext ?_)
    refine (ValueKit.rect_emb_unit_val _ _ _ _ _).trans ?_
    have h0 : ∀ k : S1.Idx, (k 0).val = 0 := fun k => by
      have : (k 0).val < 1 := (k 0).isLt
      omega
    obtain ⟨a, ha⟩ := a
    obtain rfl : a = 0 := by change a < 1 at ha; omega
    have hi : (i 0).val < 544 := (i 0).isLt
    show (BitVec.ofNat 32 (i 0).val).toNat + (Shape.Idx.first (s := S1) _ 0).val = (i 0).val
    rw [h0, BitVec.toNat_ofNat]; omega
  unfold cc0_transform_1
  dsimp only
  rw [h]; rfl

/-- When every word of the table of experts is below 32, the blocks of the weights lie in their arrays. -/
theorem ok_of (h : ∀ i, (word (tbl m) i).toNat < 32) : Ok m := by
  have e2 : ∀ i, cc0_transform_2 k0_off1_inb numel1_S1 (tbl m) i = ![(word (tbl m) i).toNat, 0, 0] := transform_1_eq (tbl m)
  have e3 : ∀ i, cc0_transform_3 k0_off1_inb numel1_S1 (tbl m) i = ![(word (tbl m) i).toNat, 0, 0] := transform_1_eq (tbl m)
  have e4 : ∀ i, cc0_transform_4 k0_off1_inb numel1_S1 (tbl m) i = ![(word (tbl m) i).toNat, 0, 0] := transform_1_eq (tbl m)
  unfold Ok ok0
  refine ⟨fun i => ⟨fun a => ?_, .inr (Affine.block_words_dvd (of_decide_eq_true rfl) (by decide))⟩, fun i => ⟨fun a => ?_, .inl rfl⟩,
    fun i => ⟨fun a => ?_, .inr (Affine.block_words_dvd (of_decide_eq_true rfl) (by decide))⟩, fun i => ⟨fun a => ?_, .inl rfl⟩⟩
  · rw [transform_1_eq]; have := h i
    fin_cases a
    · show ((word (tbl m) i).toNat + 1) * 1 ≤ 32; omega
    · show (0 + 1) * 1024 ≤ 1024; omega
    · show (0 + 1) * 2048 ≤ 2048; omega
  · rw [e2]; have := h i
    fin_cases a
    · show ((word (tbl m) i).toNat + 1) * 1 ≤ 32; omega
    · show (0 + 1) * 1 ≤ 1; omega
    · show (0 + 1) * 2048 ≤ 2048; omega
  · rw [e3]; have := h i
    fin_cases a
    · show ((word (tbl m) i).toNat + 1) * 1 ≤ 32; omega
    · show (0 + 1) * 1024 ≤ 1024; omega
    · show (0 + 1) * 1024 ≤ 1024; omega
  · rw [e4]; have := h i
    fin_cases a
    · show ((word (tbl m) i).toNat + 1) * 1 ≤ 32; omega
    · show (0 + 1) * 1 ≤ 1; omega
    · show (0 + 1) * 1024 ≤ 1024; omega

end Cert.MoeIdeal.Experts

end
-- ==== Proof.MoeModel.lean ====
/- One row through one expert, as scalars: the gate and up projections, the clamped gated activation, the down
   projection, and the weight of the row. -/
module

public import Idealize.ShloMosaic.Lib.Pipeline.ValueKit

@[expose] public section

noncomputable section

namespace Cert.Routed

open Idealize.ShloMosaic

/-- Column `f` of the gate half of the hidden row. -/
def lo (f : Fin 1024) : Fin 2048 := ⟨f.val, by omega⟩
/-- Column `f` of the up half. -/
def hi (f : Fin 1024) : Fin 2048 := ⟨1024 + f.val, by omega⟩

/-- The hidden row before the activation: the row times the expert's gate and up weights, plus their bias. -/
def hidden (x : Fin 1024 → EReal) (w : Fin 1024 → Fin 2048 → EReal) (b : Fin 2048 → EReal) (f : Fin 2048) : EReal :=
  ∑ d, x d * w d f + b f

/-- The gate clamped above at 7. -/
def capped (g : EReal) : EReal := min g (Ideal.ofBits .f32 0x40E00000#32)

/-- The clamped gated activation of a gate `g` and an up value `u`. -/
def act (g u : EReal) : EReal :=
  capped g * Ideal.logistic (Ideal.ofBits .f32 0x3FD9DB23#32 * capped g)
    * (min (Ideal.ofBits .f32 0x40E00000#32) (max (Ideal.ofBits .f32 0xC0E00000#32) u) + 1)

/-- The activated row. -/
def activated (x : Fin 1024 → EReal) (w : Fin 1024 → Fin 2048 → EReal) (b : Fin 2048 → EReal) (f : Fin 1024) : EReal :=
  act (hidden x w b (lo f)) (hidden x w b (hi f))

/-- The row an expert makes of the row `x`. -/
def expert (x : Fin 1024 → EReal) (wg : Fin 1024 → Fin 2048 → EReal) (bg : Fin 2048 → EReal) (wd : Fin 1024 → Fin 1024 → EReal)
    (bd : Fin 1024 → EReal) (d : Fin 1024) : EReal :=
  ∑ f, activated x wg bg f * wd f d + bd d

/-- Row `r` of block `i` of the sorted tokens. -/
def row (i : Fin 544) (r : Fin 256) : Fin 139264 := ⟨i.val * 256 + r.val, by omega⟩

/-- The expert a word names: the word as a number, at most 31. -/
def named (w : BitVec 32) : Fin 32 := ⟨min w.toNat 31, by omega⟩

/-- The routed experts' output at row `r` of block `i` and column `d`: in a block in use, the row through the block's
    expert, times the row's weight; zero in the others. -/
def routed (be : IVec ⟨1, ![544]⟩ 32) (n : IVec ⟨1, ![1]⟩ 32) (xs : FVec Ideal ⟨2, ![139264, 1024]⟩ .bf16)
    (wg : FVec Ideal ⟨3, ![32, 1024, 2048]⟩ .f32) (bg : FVec Ideal ⟨2, ![32, 2048]⟩ .f32)
    (wd : FVec Ideal ⟨3, ![32, 1024, 1024]⟩ .f32) (bd : FVec Ideal ⟨2, ![32, 1024]⟩ .f32) (g : FVec Ideal ⟨1, ![139264]⟩ .f32)
    (i : Fin 544) (r : Fin 256) (d : Fin 1024) : EReal :=
  if (BitVec.ofNat 32 i.val).slt (n (ix1 0)) then
    expert (fun k => xs (ix2 (row i r) k)) (fun k f => wg (ix3 (named (be (ix1 i))) k f)) (fun f => bg (ix2 (named (be (ix1 i))) f))
      (fun f d => wd (ix3 (named (be (ix1 i))) f d)) (fun d => bd (ix2 (named (be (ix1 i))) d)) d * g (ix1 (row i r))
  else 0

/-- The block of a row. -/
def blockOf (y : Fin 139264) : Fin 544 := ⟨y.val / 256, by omega⟩
/-- Its place in the block. -/
def placeOf (y : Fin 139264) : Fin 256 := ⟨y.val % 256, Nat.mod_lt _ (by decide)⟩

theorem row_block (y : Fin 139264) : row (blockOf y) (placeOf y) = y := Fin.ext (by show y.val / 256 * 256 + y.val % 256 = y.val; omega)
theorem blockOf_row (i : Fin 544) (r : Fin 256) : blockOf (row i r) = i := Fin.ext (by show (i.val * 256 + r.val) / 256 = i.val; omega)
theorem placeOf_row (i : Fin 544) (r : Fin 256) : placeOf (row i r) = r := Fin.ext (by show (i.val * 256 + r.val) % 256 = r.val; omega)

/-- The whole array. -/
def routedAll (be : IVec ⟨1, ![544]⟩ 32) (n : IVec ⟨1, ![1]⟩ 32) (xs : FVec Ideal ⟨2, ![139264, 1024]⟩ .bf16)
    (wg : FVec Ideal ⟨3, ![32, 1024, 2048]⟩ .f32) (bg : FVec Ideal ⟨2, ![32, 2048]⟩ .f32)
    (wd : FVec Ideal ⟨3, ![32, 1024, 1024]⟩ .f32) (bd : FVec Ideal ⟨2, ![32, 1024]⟩ .f32) (g : FVec Ideal ⟨1, ![139264]⟩ .f32) :
    FVec Ideal ⟨2, ![139264, 1024]⟩ .bf16 :=
  fun y => routed be n xs wg bg wd bd g (blockOf (y 0)) (placeOf (y 0)) (y 1)

/-- The array at a row of a block. -/
theorem routedAll_row (be : IVec ⟨1, ![544]⟩ 32) (n : IVec ⟨1, ![1]⟩ 32) (xs : FVec Ideal ⟨2, ![139264, 1024]⟩ .bf16)
    (wg : FVec Ideal ⟨3, ![32, 1024, 2048]⟩ .f32) (bg : FVec Ideal ⟨2, ![32, 2048]⟩ .f32)
    (wd : FVec Ideal ⟨3, ![32, 1024, 1024]⟩ .f32) (bd : FVec Ideal ⟨2, ![32, 1024]⟩ .f32) (g : FVec Ideal ⟨1, ![139264]⟩ .f32)
    (i : Fin 544) (r : Fin 256) (d : Fin 1024) :
    routedAll be n xs wg bg wd bd g (ix2 (row i r) d) = routed be n xs wg bg wd bd g i r d := by
  show routed be n xs wg bg wd bd g (blockOf (row i r)) (placeOf (row i r)) d = _
  rw [blockOf_row, placeOf_row]

end Cert.Routed

end
-- ==== Proof.MoeBlock.lean ====
/- What a grid point of the experts kernel writes: each row of its block through the expert whose weights it reads, times
   the row's weight, or zero when the block is not in use. -/
module

public import proofs.«01_k».proof.Proof.MoeBody
public import proofs.«01_k».proof.Proof.MoeModel

@[expose] public section

set_option maxRecDepth 16384

noncomputable section

namespace Cert.MoeIdeal.Block

open Cert.MoeIdeal Cert.MoeIdeal.Gen Cert.MoeIdeal.Experts Cert.Routed Idealize.ShloMosaic

/-- A block in use. -/
theorem pay2_at (x : Vec Ideal S256x1024 .bf16) (wg : Vec Ideal S1x1024x2048 .bf16) (bg : Vec Ideal S1x1x2048 .f32)
    (wd : Vec Ideal S1x1024x1024 .bf16) (bd : Vec Ideal S1x1x1024 .f32) (g : Vec Ideal S256x1 .f32) (r : Fin 256) (d : Fin 1024) :
    k0_pay2 x wg bg wd bd g (ix2 r d)
      = expert (fun k => x (ix2 r k)) (fun k f => wg (ix3 0 k f)) (fun f => bg (ix3 0 0 f)) (fun f d => wd (ix3 0 f d))
          (fun d => bd (ix3 0 0 d)) d * g (ix2 r 0) := by
  unfold k0_pay2
  pointwise
  rfl

/-- A block not in use. -/
theorem pay1_at (y : S256x1024.Idx) : k0_pay1 (F := Ideal) y = 0 := by
  unfold k0_pay1
  exact Ideal.ofBits_zero_bf16

/-- The block is in use when its number is below the count. -/
theorem used_iff (i : grid0.Coords) (n : BitVec 32) : k0_cond1 i n = 1#1 ↔ (BitVec.ofNat 32 (i 0).val).slt n := by
  unfold k0_cond1
  simp only [Scalar.cmpi, Scalar.extui, IntOp.cmpi]
  generalize (BitVec.ofNat 32 (i 0).val).slt n = b
  cases b <;> decide

/-- The block a grid point writes. -/
theorem block_at (i : grid0.Coords) (n : BitVec 32) (x : Vec Ideal S256x1024 .bf16) (wg : Vec Ideal S1x1024x2048 .bf16)
    (bg : Vec Ideal S1x1x2048 .f32) (wd : Vec Ideal S1x1024x1024 .bf16) (bd : Vec Ideal S1x1x1024 .f32) (g : Vec Ideal S256x1 .f32)
    (r : Fin 256) (d : Fin 1024) :
    blockOut i n x wg bg wd bd g (ix2 r d)
      = if (BitVec.ofNat 32 (i 0).val).slt n then
          expert (fun k => x (ix2 r k)) (fun k f => wg (ix3 0 k f)) (fun f => bg (ix3 0 0 f)) (fun f d => wd (ix3 0 f d))
            (fun d => bd (ix3 0 0 d)) d * g (ix2 r 0)
        else 0 := by
  unfold blockOut
  by_cases h : k0_cond1 i n = 1#1
  · rw [if_pos h, if_pos ((used_iff i n).mp h), pay2_at]
  · rw [if_neg h, if_neg (fun hh => h ((used_iff i n).mpr hh)), pay1_at]

end Cert.MoeIdeal.Block

end
-- ==== Proof.MoeArray.lean ====
/- The array the experts kernel leaves: grid point `t` reads block `t` of the sorted tokens and the weights of the expert
   the table names there, and the blocks make up the routed experts' output. -/
module

public import proofs.«01_k».proof.Proof.MoeFrame
public import proofs.«01_k».proof.Proof.MoeBlock
public import Idealize.ShloMosaic.Lib.Pipeline.Covers

@[expose] public section

set_option maxRecDepth 16384

noncomputable section

namespace Cert.MoeIdeal.Array

open Cert.MoeIdeal Cert.MoeIdeal.Gen Cert.MoeIdeal.Experts Cert.MoeIdeal.Block Cert.Routed
open Idealize.ShloMosaic Idealize.ShloMosaic.TcCoe Idealize.SL.Sem
open Idealize.ShloMosaic.Pipeline (Dat)

variable (m : (ℓ : Loc nD τ sig) → Buf (Elt Ideal) ℓ) (hO : Ok m) (c : Dev nD)

abbrev A0 : IVec ⟨1, ![544]⟩ 32 := m ((c.tc : Thread nD τ).loc main_arg0)
abbrev A1 : IVec ⟨1, ![1]⟩ 32 := m ((c.tc : Thread nD τ).loc main_arg1)
abbrev A2 : FVec Ideal ⟨2, ![139264, 1024]⟩ .bf16 := m ((c.tc : Thread nD τ).loc main_arg2)
abbrev A3 : FVec Ideal ⟨3, ![32, 1024, 2048]⟩ .f32 := m ((c.tc : Thread nD τ).loc main_arg3)
abbrev A4 : FVec Ideal ⟨2, ![32, 2048]⟩ .f32 := m ((c.tc : Thread nD τ).loc main_arg4)
abbrev A5 : FVec Ideal ⟨3, ![32, 1024, 1024]⟩ .f32 := m ((c.tc : Thread nD τ).loc main_arg5)
abbrev A6 : FVec Ideal ⟨2, ![32, 1024]⟩ .f32 := m ((c.tc : Thread nD τ).loc main_arg6)
abbrev A7 : FVec Ideal ⟨1, ![139264]⟩ .f32 := m ((c.tc : Thread nD τ).loc main_arg7)

/-! ## The casts and reshapes -/

theorem V_arg2 : (V m c main_arg2 : FVec Ideal ⟨2, ![139264, 1024]⟩ .bf16) = A2 m c :=
  V_kept m c main_arg2 (by decide) (by decide) (by decide) (by decide) (by decide)

theorem V_v0 (e : Fin 32) (k : Fin 1024) (f : Fin 2048) : (V m c main_v0 : FVec Ideal S32x1024x2048 .bf16) (ix3 e k f) = A3 m c (ix3 e k f) := by
  unfold V hostOps0
  after_results_simp
  rfl

theorem V_v1 (e : Fin 32) (f : Fin 2048) : (V m c main_v1 : FVec Ideal S32x1x2048 .f32) (ix3 e 0 f) = A4 m c (ix2 e f) := by
  unfold V hostOps0
  after_results_simp
  pointwise

theorem V_v2 (e : Fin 32) (f d : Fin 1024) : (V m c main_v2 : FVec Ideal S32x1024x1024 .bf16) (ix3 e f d) = A5 m c (ix3 e f d) := by
  unfold V hostOps0
  after_results_simp
  rfl

theorem V_v3 (e : Fin 32) (d : Fin 1024) : (V m c main_v3 : FVec Ideal S32x1x1024 .f32) (ix3 e 0 d) = A6 m c (ix2 e d) := by
  unfold V hostOps0
  after_results_simp
  pointwise

theorem V_v4 (y : Fin 139264) : (V m c main_v4 : FVec Ideal S139264x1 .f32) (ix2 y 0) = A7 m c (ix1 y) := by
  unfold V hostOps0
  after_results_simp
  pointwise

/-! ## The blocks -/

/-- A place inside block `v` of blocks of `s`. -/
theorem times {x v s y b : ℕ} (h : x = v) (e : v * s + y = b) : x * s + y = b := h ▸ e
/-- The only place of block `v` of blocks of one. -/
theorem plus {x v b : ℕ} (h : x = v) (e : v = b) : x + 0 = b := h.trans e

theorem coords_val : ∀ t : Fin grid0.N, ((grid0.coords t) 0).val = t.val := by decide +kernel

/-- The tokens, their weights and the output are taken block by block. -/
theorem transform_rows (t : Fin grid0.N) : cc0_transform_0 (grid0.coords t) = ![t.val, 0] := by
  have h := coords_val t
  have ht : t.val < 544 := t.isLt
  unfold cc0_transform_0
  dsimp only
  rw [h, BitVec.toNat_ofNat, Nat.mod_eq_of_lt (by omega)]
  rfl

theorem idx_0 (t : Fin (cfgM m hO).N) : (pcfg0.win (adm m hO) (0 : Fin 7)).index t = ![t.val, 0] := transform_rows t
theorem idx_5 (t : Fin (cfgM m hO).N) : (pcfg0.win (adm m hO) (5 : Fin 7)).index t = ![t.val, 0] := transform_rows t
theorem idx_6 (t : Fin (cfgM m hO).N) : (pcfg0.win (adm m hO) (6 : Fin 7)).index t = ![t.val, 0] := transform_rows t

/-- The weights are those of the expert the table names at the block. -/
theorem word_at (t : Fin grid0.N) (i : Fin 544) (ht : t.val = i.val) : word (tbl m) (grid0.coords t) = A0 m c (ix1 i) := by
  obtain rfl : c = 0 := Subsingleton.elim _ _
  have hi : (grid0.coords t) 0 = (i : Fin 544) := Fin.ext ((coords_val t).trans ht)
  unfold word tbl
  rw [V_kept m 0 (pre0.ref 0) (by decide) (by decide) (by decide) (by decide) (by decide)]
  exact congrArg (fun j => (m (0, main_arg0) : S544.Idx → BitVec 32) (ix1 j)) hi

section Weights
variable (t : Fin (cfgM m hO).N) (i : Fin 544) (ht : t.val = i.val) (hb : (A0 m c (ix1 i)).toNat < 32)

include ht hb in
theorem expert_at : (word (tbl m) (grid0.coords t)).toNat = (named (A0 m c (ix1 i))).val := by
  rw [word_at m c t i ht]
  show _ = min _ 31
  omega

include ht hb in
theorem idx_1 : (pcfg0.win (adm m hO) (1 : Fin 7)).index t = ![(named (A0 m c (ix1 i))).val, 0, 0] :=
  (transform_1_eq (tbl m) (grid0.coords t)).trans (by rw [expert_at m hO c t i ht hb])
include ht hb in
theorem idx_2 : (pcfg0.win (adm m hO) (2 : Fin 7)).index t = ![(named (A0 m c (ix1 i))).val, 0, 0] :=
  (transform_1_eq (tbl m) (grid0.coords t)).trans (by rw [expert_at m hO c t i ht hb])
include ht hb in
theorem idx_3 : (pcfg0.win (adm m hO) (3 : Fin 7)).index t = ![(named (A0 m c (ix1 i))).val, 0, 0] :=
  (transform_1_eq (tbl m) (grid0.coords t)).trans (by rw [expert_at m hO c t i ht hb])
include ht hb in
theorem idx_4 : (pcfg0.win (adm m hO) (4 : Fin 7)).index t = ![(named (A0 m c (ix1 i))).val, 0, 0] :=
  (transform_1_eq (tbl m) (grid0.coords t)).trans (by rw [expert_at m hO c t i ht hb])

include ht in
/-- The tokens of the block. -/
theorem x_at (r : Fin 256) (k : Fin 1024) : (iblk m hO c 0 t : Vec Ideal S256x1024 .bf16) (ix2 r k) = A2 m c (ix2 (row i r) k) := by
  rw [← V_arg2]
  unfold row
  blk_point [iblk, V]
  · exact times (congrFun (idx_0 m hO t) (0 : Fin 2)) (by show t.val * 256 + _ = _; omega)
  · exact times (congrFun (idx_0 m hO t) (1 : Fin 2)) (by show 0 * 1024 + _ = _; omega)

include ht hb in
/-- The gate and up weights of its expert. -/
theorem wg_at (k : Fin 1024) (f : Fin 2048) :
    (iblk m hO c 1 t : Vec Ideal S1x1024x2048 .bf16) (ix3 0 k f) = A3 m c (ix3 (named (A0 m c (ix1 i))) k f) := by
  rw [← V_v0]
  blk_point [iblk, V]
  · exact plus (congrFun (idx_1 m hO c t i ht hb) (0 : Fin 3)) rfl
  · exact times (congrFun (idx_1 m hO c t i ht hb) (1 : Fin 3)) (by show 0 * _ + _ = _; omega)
  · exact times (congrFun (idx_1 m hO c t i ht hb) (2 : Fin 3)) (by show 0 * _ + _ = _; omega)

include ht hb in
/-- Their bias. -/
theorem bg_at (f : Fin 2048) :
    (iblk m hO c 2 t : Vec Ideal S1x1x2048 .f32) (ix3 0 0 f) = A4 m c (ix2 (named (A0 m c (ix1 i))) f) := by
  rw [← V_v1]
  blk_point [iblk, V]
  · exact plus (congrFun (idx_2 m hO c t i ht hb) (0 : Fin 3)) rfl
  · exact plus (congrFun (idx_2 m hO c t i ht hb) (1 : Fin 3)) rfl
  · exact times (congrFun (idx_2 m hO c t i ht hb) (2 : Fin 3)) (by show 0 * _ + _ = _; omega)

include ht hb in
/-- The down weights. -/
theorem wd_at (f d : Fin 1024) :
    (iblk m hO c 3 t : Vec Ideal S1x1024x1024 .bf16) (ix3 0 f d) = A5 m c (ix3 (named (A0 m c (ix1 i))) f d) := by
  rw [← V_v2]
  blk_point [iblk, V]
  · exact plus (congrFun (idx_3 m hO c t i ht hb) (0 : Fin 3)) rfl
  · exact times (congrFun (idx_3 m hO c t i ht hb) (1 : Fin 3)) (by show 0 * _ + _ = _; omega)
  · exact times (congrFun (idx_3 m hO c t i ht hb) (2 : Fin 3)) (by show 0 * _ + _ = _; omega)

include ht hb in
/-- Their bias. -/
theorem bd_at (d : Fin 1024) :
    (iblk m hO c 4 t : Vec Ideal S1x1x1024 .f32) (ix3 0 0 d) = A6 m c (ix2 (named (A0 m c (ix1 i))) d) := by
  rw [← V_v3]
  blk_point [iblk, V]
  · exact plus (congrFun (idx_4 m hO c t i ht hb) (0 : Fin 3)) rfl
  · exact plus (congrFun (idx_4 m hO c t i ht hb) (1 : Fin 3)) rfl
  · exact times (congrFun (idx_4 m hO c t i ht hb) (2 : Fin 3)) (by show 0 * _ + _ = _; omega)

include ht in
/-- The weights of the rows. -/
theorem g_at (r : Fin 256) : (iblk m hO c 5 t : Vec Ideal S256x1 .f32) (ix2 r 0) = A7 m c (ix1 (row i r)) := by
  rw [← V_v4]
  unfold row
  blk_point [iblk, V]
  · exact times (congrFun (idx_5 m hO t) (0 : Fin 2)) (by show t.val * 256 + _ = _; omega)
  · exact plus (congrFun (idx_5 m hO t) (1 : Fin 2)) rfl

/-- The count of blocks in use. -/
theorem count_at : countOf c (tbl m 1) = A1 m c (ix1 0) := by
  obtain rfl : c = 0 := Subsingleton.elim _ _
  unfold countOf tbl
  rw [V_kept m 0 (pre0.ref 1) (by decide) (by decide) (by decide) (by decide) (by decide)]
  rfl

include ht hb in
/-- The block of the output. -/
theorem out_at (r : Fin 256) (d : Fin 1024) :
    outAt m hO c t (ix2 r d) = routed (A0 m c) (A1 m c) (A2 m c) (A3 m c) (A4 m c) (A5 m c) (A6 m c) (A7 m c) i r d := by
  have hc : ((grid0.coords t) 0).val = i.val := (coords_val t).trans ht
  refine (block_at (grid0.coords t) (countOf c (tbl m 1)) (iblk m hO c 0 t) (iblk m hO c 1 t) (iblk m hO c 2 t) (iblk m hO c 3 t)
    (iblk m hO c 4 t) (iblk m hO c 5 t) r d).trans ?_
  unfold routed
  have e0 : (fun k => (iblk m hO c 0 t : Vec Ideal S256x1024 .bf16) (ix2 r k)) = fun k => A2 m c (ix2 (row i r) k) :=
    funext fun k => x_at m hO c t i ht r k
  have e1 : (fun k f => (iblk m hO c 1 t : Vec Ideal S1x1024x2048 .bf16) (ix3 0 k f)) = fun k f => A3 m c (ix3 (named (A0 m c (ix1 i))) k f) :=
    funext fun k => funext fun f => wg_at m hO c t i ht hb k f
  have e2 : (fun f => (iblk m hO c 2 t : Vec Ideal S1x1x2048 .f32) (ix3 0 0 f)) = fun f => A4 m c (ix2 (named (A0 m c (ix1 i))) f) :=
    funext fun f => bg_at m hO c t i ht hb f
  have e3 : (fun f d => (iblk m hO c 3 t : Vec Ideal S1x1024x1024 .bf16) (ix3 0 f d)) = fun f d => A5 m c (ix3 (named (A0 m c (ix1 i))) f d) :=
    funext fun f => funext fun d => wd_at m hO c t i ht hb f d
  have e4 : (fun d => (iblk m hO c 4 t : Vec Ideal S1x1x1024 .f32) (ix3 0 0 d)) = fun d => A6 m c (ix2 (named (A0 m c (ix1 i))) d) :=
    funext fun d => bd_at m hO c t i ht hb d
  rw [hc, e0, e1, e2, e3, e4, g_at m hO c t i ht, count_at]

end Weights

/-! ## The array -/

/-- The blocks make up the array. -/
theorem covers : ((cfgM m hO).win (6 : Fin 7)).Covers :=
  Pipeline.Window.covers_of_index_surj _ rfl (fun a => (by decide : ∀ a : Fin 2, 0 < S256x1024.size a) a) fun β =>
    ⟨(⟨(β (0 : Fin 2)).val, (β (0 : Fin 2)).isLt.trans_eq (by decide : (139264 + 256 - 1) / 256 = 544)⟩ : Fin 544), fun a => (congrFun (idx_6 m hO _) a).trans (match a with
      | ⟨0, _⟩ => rfl
      | ⟨1, _⟩ => (Nat.lt_one_iff.1 ((β (1 : Fin 2)).isLt.trans_eq (by decide : (1024 + 1024 - 1) / 1024 = 1))).symm)⟩

/-- An index of a block is a row and a column. -/
theorem place (y : S256x1024.Idx) : ∃ (r : Fin 256) (d : Fin 1024), y = ix2 r d :=
  ⟨y 0, y 1, by funext a; match a with | ⟨0, _⟩ => rfl | ⟨1, _⟩ => rfl⟩

/-- The array the kernel leaves. -/
theorem array (hb : ∀ i, (A0 m c (ix1 i)).toNat < 32) :
    (dats m hO 0 c).arrAt 6 (cfgM m hO).N = routedAll (A0 m c) (A1 m c) (A2 m c) (A3 m c) (A4 m c) (A5 m c) (A6 m c) (A7 m c) := by
  refine (dats m hO 0 c).arrAt_eq_of_covers 6 _ (covers m hO) fun t hf y => ?_
  blk_simp
  rw [after_6]
  obtain ⟨r, d, rfl⟩ := place y
  have e : ((((cfgM m hO).win (6 : Fin 7)).blk t).view.emb (ix2 r d : S256x1024.Idx) : S139264x1024.Idx) = ix2 (row (t : Fin 544) r) d := by
    unfold row
    blk_ext
    · exact times (congrFun (idx_6 m hO t) (0 : Fin 2)) rfl
    · exact times (congrFun (idx_6 m hO t) (1 : Fin 2)) (by show 0 * _ + _ = _; omega)
  refine Eq.trans ?_ (congrArg (routedAll (A0 m c) (A1 m c) (A2 m c) (A3 m c) (A4 m c) (A5 m c) (A6 m c) (A7 m c)) e).symm
  exact (out_at m hO c t t rfl (hb t) r d).trans (routedAll_row _ _ _ _ _ _ _ _ t r d).symm

end Cert.MoeIdeal.Array

end
-- ==== Proof.MoeGather.lean ====
/- A stack of matrices read by a column of matrix numbers. -/
module

public import Idealize.ShloMosaic.Lib.StableHlo.Predicate
public import Idealize.ShloMosaic.Lib.Pipeline.ValueKit

@[expose] public section

namespace Cert.Routed

open Idealize.ShloMosaic

variable {α : Type} {N A B n : ℕ} (d : GatherDims ⟨3, ![N, A, B]⟩ ⟨2, ![n, 1]⟩ ⟨3, ![n, A, B]⟩) (hoff : d.offsetDims = [1, 2])
  (hcoll : d.collapsedSliceDims = [0]) (hob : d.operandBatchingDims = []) (hsim : d.startIndexMap = [0]) (hivd : d.indexVectorDim = 1)

include hcoll hob in
/-- The matrices' own axes are the second and the third. -/
theorem kept_axes : d.sKept = [1, 2] := by
  unfold GatherDims.sKept
  rw [hcoll, hob]
  rfl

include hoff in
/-- The result counts the matrices on its first axis. -/
theorem batch_axes : d.batchDims = [0] := by
  unfold GatherDims.batchDims
  rw [hoff]
  rfl

include hoff hsim hivd in
/-- Entry `(c, y, z)` looks its matrix number up at place `c` of the column. -/
theorem lookup_place (c : Fin n) (y : Fin A) (z : Fin B) (k : Fin d.startIndexMap.length) :
    d.siIdx (ix3 c y z) k = ix2 c (0 : Fin 1) := by
  have hall : ∀ a ∈ d.batchDims, (ix3 c y z a).val = c.val := fun a ha => by
    rw [batch_axes d hoff] at ha
    obtain rfl := List.mem_singleton.1 ha
    rfl
  have hk : k.val = 0 := Nat.lt_one_iff.1 (k.isLt.trans_eq (congrArg List.length hsim))
  funext b
  apply Fin.ext
  unfold GatherDims.siIdx
  match b with
  | ⟨0, _⟩ =>
    rw [dif_neg (by rw [hivd]; exact Nat.zero_ne_one)]
    unfold GatherDims.siCoord
    rw [Fin.val_cast]
    exact hall _ (List.getElem_mem _)
  | ⟨1, _⟩ =>
    rw [dif_pos (by rw [hivd])]
    exact hk

include hoff hcoll hsim hivd in
/-- The matrix number is where the read starts on the first axis. -/
theorem start_first (idx : IVec ⟨2, ![n, 1]⟩ 32) (c : Fin n) (y : Fin A) (z : Fin B) (b : Fin N)
    (hb : idx (ix2 c (0 : Fin 1)) = BitVec.ofNat 32 b.val) (hN : N < 2 ^ 31) : d.start (ix3 c y z) idx (0 : Fin 3) = b.val := by
  have hbl := b.isLt
  have hs : d.sliceSizes 0 = 1 := d.slice_collapsed 0 (by rw [hcoll]; exact List.mem_singleton.2 rfl)
  unfold GatherDims.start
  rw [dif_pos (by rw [hsim]; exact List.mem_singleton.2 rfl), lookup_place d hoff hsim hivd, hb, hs,
    StableHlo.Predicate.toInt_ofNat_small _ (by omega)]
  show min ((b.val : Int)).toNat (N - 1) = b.val
  omega

include hsim in
/-- On the other axes it starts at zero. -/
theorem start_other (idx : IVec ⟨2, ![n, 1]⟩ 32) (j : (⟨3, ![n, A, B]⟩ : Shape).Idx) (a : Fin 3) (ha : a ≠ 0) : d.start j idx a = 0 := by
  unfold GatherDims.start
  rw [dif_neg (by rw [hsim]; exact fun h => ha (List.mem_singleton.1 h))]

/-- Equal lists of axes pair each axis with itself. -/
theorem same_axis (l l' : List (Fin 3)) (a : Fin 3) (ha : a ≠ 0) (hl : l = [1, 2]) (hl' : l' = [1, 2]) (h) : l[l'.idxOf a]'h = a := by
  subst hl hl'
  fin_cases a
  · exact absurd rfl ha
  · rfl
  · rfl

include hoff hcoll hob in
/-- The second axis is read at the result's second. -/
theorem off_second (j : (⟨3, ![n, A, B]⟩ : Shape).Idx) : d.offCoord j (1 : Fin 3) = (j (1 : Fin 3)).val := by
  have hkept := kept_axes d hcoll hob
  unfold GatherDims.offCoord
  rw [dif_pos (by rw [hkept]; exact List.mem_cons_self)]
  exact congrArg (fun a => (j a).val) (same_axis _ _ 1 (by decide) hoff hkept _)

include hoff hcoll hob in
/-- The third axis is read at the result's third. -/
theorem off_third (j : (⟨3, ![n, A, B]⟩ : Shape).Idx) : d.offCoord j (2 : Fin 3) = (j (2 : Fin 3)).val := by
  have hkept := kept_axes d hcoll hob
  unfold GatherDims.offCoord
  rw [dif_pos (by rw [hkept]; exact List.mem_cons_of_mem _ List.mem_cons_self)]
  exact congrArg (fun a => (j a).val) (same_axis _ _ 2 (by decide) hoff hkept _)

include hoff hcoll hob hsim hivd in
/-- Where the column holds `b` at `c`, entry `(c, y, z)` of the result is entry `(b, y, z)` of the stack. -/
theorem gather_matrix (x : (⟨3, ![N, A, B]⟩ : Shape).Idx → α) (idx : IVec ⟨2, ![n, 1]⟩ 32) (c : Fin n) (y : Fin A) (z : Fin B) (b : Fin N)
    (hb : idx (ix2 c (0 : Fin 1)) = BitVec.ofNat 32 b.val) (hN : N < 2 ^ 31) :
    Host.gather d x idx (ix3 c y z) = x (ix3 b y z) := by
  have hkept := kept_axes d hcoll hob
  unfold Host.gather
  refine congrArg x (funext fun a => Fin.ext ?_)
  show d.start (ix3 c y z) idx a + d.batchCoord (ix3 c y z) a + d.offCoord (ix3 c y z) a = (ix3 b y z a).val
  rw [d.batchCoord_eq_zero _ _ (by rw [hob]; exact List.not_mem_nil), Nat.add_zero]
  match a with
  | ⟨0, _⟩ =>
    refine (congrArg₂ (· + ·) (start_first d hoff hcoll hsim hivd idx c y z b hb hN) (d.offCoord_eq_zero _ (0 : Fin 3) fun h => ?_)).trans rfl
    exact ((d.mem_sKept 0).1 h).1 (by rw [hcoll]; exact List.mem_singleton.2 rfl)
  | ⟨1, _⟩ =>
    exact (congrArg₂ (· + ·) (start_other d hsim idx _ (1 : Fin 3) (by decide)) (off_second d hoff hcoll hob _)).trans (Nat.zero_add _)
  | ⟨2, _⟩ =>
    exact (congrArg₂ (· + ·) (start_other d hsim idx _ (2 : Fin 3) (by decide)) (off_third d hoff hcoll hob _)).trans (Nat.zero_add _)

end Cert.Routed
-- ==== Proof.MoeRef.lean ====
/- The reference's result: the routed experts' output of the arguments, when every word of the table names an expert. -/
module

public import proofs.«01_k».proof.Proof.Gen.MoeRefIdeal.Run
public import proofs.«01_k».proof.Proof.MoeModel
public import proofs.«01_k».proof.Proof.MoeGather
public import Idealize.ShloMosaic.Lib.Routing.Ops

@[expose] public section

set_option maxRecDepth 16384

noncomputable section

namespace Cert.MoeRefIdeal.Rows

open Cert.MoeRefIdeal Cert.MoeRefIdeal.Gen Cert.MoeRefIdeal.Value Cert.Routed
open Idealize.ShloMosaic Idealize.ShloMosaic.TcCoe

variable (a0 : IVec S544 32) (a1 : IVec S1 32) (a2 : FVec Ideal S139264x1024 .bf16) (a3 : FVec Ideal S32x1024x2048 .f32)
  (a4 : FVec Ideal S32x2048 .f32) (a5 : FVec Ideal S32x1024x1024 .f32) (a6 : FVec Ideal S32x1024 .f32) (a7 : FVec Ideal S139264 .f32)

/-! ## The column of experts -/

/-- The column of expert numbers the weights are gathered by. -/
def column : IVec S544x1 32 :=
  broadcastInDim S544x1 ![0] bcast_S544_S544x1_0 (select (cmpi .slt a0 (broadcastInDim S544 ![] bcast_S_S544 (constantI S_ 32 0#32))) (addi a0 (broadcastInDim S544 ![] bcast_S_S544 (constantI S_ 32 32#32))) a0)

/-- A word below 32 names the expert of that number. -/
theorem column_at (i : Fin 544) (hb : (a0 (ix1 i)).toNat < 32) : column a0 (ix2 i 0) = BitVec.ofNat 32 (named (a0 (ix1 i))).val := by
  have h : column a0 (ix2 i 0) = Scalar.select (IntOp.cmpi .slt (a0 (ix1 i)) 0#32) (IntOp.addi (a0 (ix1 i)) 32#32) (a0 (ix1 i)) := by
    unfold column
    pointwise
    try rfl
  rw [h]
  generalize a0 (ix1 i) = w at hb ⊢
  have hs : IntOp.cmpi .slt w 0#32 = 0#1 := by
    have hw : w.slt 0#32 = false := by
      rw [BitVec.slt_eq_decide, BitVec.toInt_eq_toNat_of_lt (by omega), decide_eq_false_iff_not]
      exact not_lt.2 (Int.natCast_nonneg _)
    show (BitVec.ofBool (w.slt 0#32) : BitVec 1) = 0#1
    rw [hw]; rfl
  rw [hs]
  show w = _
  apply BitVec.eq_of_toNat_eq
  rw [BitVec.toNat_ofNat]
  show _ = min w.toNat 31 % _
  omega

/-! ## The gathered weights -/

def wgOf : FVec Ideal S544x1024x2048 .f32 := Host.gather gather_S32x1024x2048_S544x1_S544x1024x2048_12_0_n_n_0_1_110242048 a3 (column a0)
def bgOf : FVec Ideal S544x2048 .f32 := Host.gather gather_S32x2048_S544x1_S544x2048_1_0_n_n_0_1_12048 a4 (column a0)
def wdOf : FVec Ideal S544x1024x1024 .f32 := Host.gather gather_S32x1024x1024_S544x1_S544x1024x1024_12_0_n_n_0_1_110241024 a5 (column a0)
def bdOf : FVec Ideal S544x1024 .f32 := Host.gather gather_S32x1024_S544x1_S544x1024_1_0_n_n_0_1_11024 a6 (column a0)

section At
variable (i : Fin 544) (hb : (a0 (ix1 i)).toNat < 32)

include hb in
theorem wg_at (k : Fin 1024) (f : Fin 2048) : wgOf a0 a3 (ix3 i k f) = a3 (ix3 (named (a0 (ix1 i))) k f) :=
  gather_matrix _ rfl rfl rfl rfl rfl a3 (column a0) i k f _ (column_at a0 i hb) (by decide)
include hb in
theorem bg_at (f : Fin 2048) : bgOf a0 a4 (ix2 i f) = a4 (ix2 (named (a0 (ix1 i))) f) :=
  Routing.gather_row _ rfl rfl rfl rfl rfl a4 (column a0) i f _ (column_at a0 i hb) (by decide)
include hb in
theorem wd_at (f d : Fin 1024) : wdOf a0 a5 (ix3 i f d) = a5 (ix3 (named (a0 (ix1 i))) f d) :=
  gather_matrix _ rfl rfl rfl rfl rfl a5 (column a0) i f d _ (column_at a0 i hb) (by decide)
include hb in
theorem bd_at (d : Fin 1024) : bdOf a0 a6 (ix2 i d) = a6 (ix2 (named (a0 (ix1 i))) d) :=
  Routing.gather_row _ rfl rfl rfl rfl rfl a6 (column a0) i d _ (column_at a0 i hb) (by decide)

end At

/-! ## The hidden rows -/

/-- The hidden rows of every block. -/
def hiddenOf (w : FVec Ideal S544x1024x2048 .f32) (b : FVec Ideal S544x2048 .f32) : FVec Ideal S544x256x2048 .f32 :=
  addf (Host.dotGeneral dot_S544x256x1024_S544x1024x2048_S544x256x2048_2_1_1_2_0_0 none (shapeCast _ (extf .f32 a2 bitsLt_bf16_f32) shapeCasts_S139264x1024_S544x256x1024) w)
    (broadcastInDim S544x256x2048 ![0, 1, 2] bcast_S544x1x2048_S544x256x2048_0_1_2 (broadcastInDim S544x1x2048 ![0, 2] bcast_S544x2048_S544x1x2048_0_2 b))

theorem hidden_at (w : FVec Ideal S544x1024x2048 .f32) (b : FVec Ideal S544x2048 .f32) (i : Fin 544) (r : Fin 256) (f : Fin 2048) :
    hiddenOf a2 w b (ix3 i r f) = hidden (fun k => a2 (ix2 (row i r) k)) (fun k f => w (ix3 i k f)) (fun f => b (ix2 i f)) f := by
  unfold hiddenOf
  pointwise
  rfl

/-- The activated rows. -/
def actOf (h : FVec Ideal S544x256x2048 .f32) : FVec Ideal S544x256x1024 .f32 :=
  mulf (mulf (minimumf (extractStridedSlice S544x256x1024 ![0, 0, 0] h slices_S544x256x2048_S544x256x1024_0_0_0) (broadcastInDim S544x256x1024 ![] bcast_S_S544x256x1024 (constant S_ .f32 0x40E00000#32)))
      (Host.divf (broadcastInDim S544x256x1024 ![] bcast_S_S544x256x1024 (constant S_ .f32 0x3F800000#32))
        (addf (broadcastInDim S544x256x1024 ![] bcast_S_S544x256x1024 (constant S_ .f32 0x3F800000#32)) (Host.exp (Host.negf (mulf (broadcastInDim S544x256x1024 ![] bcast_S_S544x256x1024 (constant S_ .f32 0x3FD9DB23#32))
          (minimumf (extractStridedSlice S544x256x1024 ![0, 0, 0] h slices_S544x256x2048_S544x256x1024_0_0_0) (broadcastInDim S544x256x1024 ![] bcast_S_S544x256x1024 (constant S_ .f32 0x40E00000#32)))))))))
    (addf (minimumf (broadcastInDim S544x256x1024 ![] bcast_S_S544x256x1024 (id (constant S_ .f32 0x40E00000#32)))
        (maximumf (broadcastInDim S544x256x1024 ![] bcast_S_S544x256x1024 (id (constant S_ .f32 0xC0E00000#32))) (extractStridedSlice S544x256x1024 ![0, 0, 1024] h slices_S544x256x2048_S544x256x1024_0_0_1024)))
      (broadcastInDim S544x256x1024 ![] bcast_S_S544x256x1024 (constant S_ .f32 0x3F800000#32)))

theorem act_at (h : FVec Ideal S544x256x2048 .f32) (i : Fin 544) (r : Fin 256) (f : Fin 1024) :
    actOf h (ix3 i r f) = act (h (ix3 i r (lo f))) (h (ix3 i r (hi f))) := by
  unfold actOf
  pointwise
  rfl

/-! ## The weighted rows -/

/-- The rows through the down weights, times their own weights. -/
def weightedOf (a : FVec Ideal S544x256x1024 .f32) (w : FVec Ideal S544x1024x1024 .f32) (b : FVec Ideal S544x1024 .f32) : FVec Ideal S544x256x1024 .f32 :=
  mulf (addf (Host.dotGeneral dot_S544x256x1024_S544x1024x1024_S544x256x1024_2_1_1_2_0_0 none a w)
      (broadcastInDim S544x256x1024 ![0, 1, 2] bcast_S544x1x1024_S544x256x1024_0_1_2 (broadcastInDim S544x1x1024 ![0, 2] bcast_S544x1024_S544x1x1024_0_2 b)))
    (broadcastInDim S544x256x1024 ![0, 1, 2] bcast_S544x256x1_S544x256x1024_0_1_2 (broadcastInDim S544x256x1 ![0, 1] bcast_S544x256_S544x256x1_0_1 (shapeCast _ a7 shapeCasts_S139264_S544x256)))

theorem weighted_at (a : FVec Ideal S544x256x1024 .f32) (w : FVec Ideal S544x1024x1024 .f32) (b : FVec Ideal S544x1024 .f32) (i : Fin 544)
    (r : Fin 256) (d : Fin 1024) :
    weightedOf a7 a w b (ix3 i r d) = (∑ f, a (ix3 i r f) * w (ix3 i f d) + b (ix2 i d)) * a7 (ix1 (row i r)) := by
  unfold weightedOf
  pointwise
  rfl

/-- The blocks in use keep their rows, the others are zero. -/
def keptOf (y : FVec Ideal S544x256x1024 .f32) : FVec Ideal S139264x1024 .bf16 :=
  truncf .bf16 (shapeCast S139264x1024 (select (broadcastInDim S544x256x1024 ![0, 1, 2] bcast_S544x1x1_S544x256x1024_0_1_2 (broadcastInDim S544x1x1 ![0] bcast_S544_S544x1x1_0 (cmpi .slt (iotaInDim S544 32 0) (broadcastInDim S544 ![0] bcast_S1_S544_0 a1))))
    y (broadcastInDim S544x256x1024 ![] bcast_S_S544x256x1024 (id (constant S_ .f32 0x00000000#32)))) shapeCasts_S544x256x1024_S139264x1024) bitsLt_bf16_f32

/-- A selection by a comparison of words. -/
theorem select_slt {α : Type} (u v : BitVec 32) (a b : α) : Scalar.select (IntOp.cmpi .slt u v) a b = if u.slt v then a else b := by
  show Scalar.select (BitVec.ofBool (u.slt v)) a b = _
  cases u.slt v <;> rfl

theorem kept_at (y : FVec Ideal S544x256x1024 .f32) (z : Fin 139264) (d : Fin 1024) :
    keptOf a1 y (ix2 z d) = if (BitVec.ofNat 32 (blockOf z).val).slt (a1 (ix1 0)) then y (ix3 (blockOf z) (placeOf z) d) else 0 := by
  rw [← select_slt]
  unfold keptOf
  pointwise
  exact congrArg (Scalar.select _ _) Ideal.ofBits_zero_f32

/-! ## The result -/

/-- The reference's result. -/
theorem result (hb : ∀ i, (a0 (ix1 i)).toNat < 32) :
    keptOf a1 (weightedOf a7 (actOf (hiddenOf a2 (wgOf a0 a3) (bgOf a0 a4))) (wdOf a0 a5) (bdOf a0 a6)) = routedAll a0 a1 a2 a3 a4 a5 a6 a7 := by
  funext y
  obtain ⟨z, d, rfl⟩ : ∃ (z : Fin 139264) (d : Fin 1024), y = ix2 z d := ⟨y 0, y 1, by funext a; match a with | ⟨0, _⟩ => rfl | ⟨1, _⟩ => rfl⟩
  rw [kept_at, weighted_at, bd_at a0 a6 _ (hb _)]
  simp only [act_at, hidden_at, wg_at a0 a3 _ (hb _), bg_at a0 a4 _ (hb _), wd_at a0 a5 _ (hb _)]
  rfl

/-- The printed result is that term. -/
theorem printed (m : (ℓ : Loc nD τ sig) → Buf (Elt Ideal) ℓ) (c : Dev nD) :
    res_main_v65 m c = keptOf (m ((c.tc : Thread nD τ).loc main_arg1)) (weightedOf (m ((c.tc : Thread nD τ).loc main_arg7))
      (actOf (hiddenOf (m ((c.tc : Thread nD τ).loc main_arg2)) (wgOf (m ((c.tc : Thread nD τ).loc main_arg0)) (m ((c.tc : Thread nD τ).loc main_arg3)))
        (bgOf (m ((c.tc : Thread nD τ).loc main_arg0)) (m ((c.tc : Thread nD τ).loc main_arg4)))))
      (wdOf (m ((c.tc : Thread nD τ).loc main_arg0)) (m ((c.tc : Thread nD τ).loc main_arg5)))
      (bdOf (m ((c.tc : Thread nD τ).loc main_arg0)) (m ((c.tc : Thread nD τ).loc main_arg6)))) := rfl

end Cert.MoeRefIdeal.Rows

end
-- ==== Proof.MoeClaims.lean ====
/- The routed experts' claims: both programs' results are the routed experts' output of the arguments, and the frames. -/
module

public import proofs.«01_k».proof.Defs
public import proofs.«01_k».proof.Proof.Gen.Pre_experts_named
public import proofs.«01_k».proof.Proof.MoeRunFrame
public import proofs.«01_k».proof.Proof.MoeArray
public import proofs.«01_k».proof.Proof.MoeRef
public import Idealize.ShloMosaic.Lib.StableHlo.Predicate
public import Idealize.ShloMosaic.Adequacy
public import Idealize.ShloMosaic.Init

@[expose] public section

set_option maxRecDepth 16384

noncomputable section

namespace Cert.MoeClaims

open Idealize.ShloMosaic Idealize.SL.Sem Cert.Routed

/-! ## The precondition -/

/-- Between 0 and 31 as a signed word is below 32. -/
theorem below (w : BitVec 32) (h : IntOp.andi (IntOp.cmpi .sge w 0#32) (IntOp.cmpi .sle w 31#32) = 1#1) : w.toNat < 32 := by
  have h' : BitVec.ofBool (BitVec.sle 0#32 w) &&& BitVec.ofBool (BitVec.sle w 31#32) = 1#1 := h
  rw [BitVec.sle_eq_decide, BitVec.sle_eq_decide] at h'
  have h0 : (0#32).toInt ≤ w.toInt := by
    by_contra hn
    rw [decide_eq_false hn] at h'
    revert h'
    cases decide (w.toInt ≤ (31#32).toInt) <;> decide
  have h1 : w.toInt ≤ (31#32).toInt := by
    by_contra hn
    rw [decide_eq_false hn] at h'
    revert h'
    cases decide ((0#32).toInt ≤ w.toInt) <;> decide
  have e0 : (0#32 : BitVec 32).toInt = 0 := by decide
  have e1 : (31#32 : BitVec 32).toInt = 31 := by decide
  rw [e0] at h0
  rw [e1] at h1
  have hw := w.isLt
  rw [BitVec.toInt_eq_toNat_cond] at h0 h1
  split at h0 <;> omega

/-- The precondition says that every word of the table is below 32. -/
theorem words {F : FTy → Type} [FloatOps F] (a0 : IVec ⟨1, ![544]⟩ 32) (a1 a2 a3 a4 a5 a6 a7)
    (h : Cert.Pre_experts_named.fn (F := F) a0 a1 a2 a3 a4 a5 a6 a7 = fun _ => 1#1) (i : Fin 544) : (a0 (ix1 i)).toNat < 32 := by
  refine below _ (Eq.trans ?_ (congrFun h (ix1 i)))
  unfold Cert.Pre_experts_named.fn
  pointwise
  try rfl

/-- The tables of the kernel at the bit-exact instance name experts. -/
theorem ok_kernel (m) (h : Cert.Pre_Moe m) : Cert.Moe.Experts.Ok m :=
  Cert.Moe.Experts.ok_of m fun i => by
    unfold Cert.Moe.Experts.word Cert.Moe.Experts.tbl
    rw [Cert.Moe.Experts.V_kept m 0 _ (by decide) (by decide) (by decide) (by decide) (by decide)]
    exact words _ _ _ _ _ _ _ _ (h 0) (i 0)

/-- The tables of the kernel at the ideal instance name experts. -/
theorem ok_ideal (m) (h : Cert.Pre_MoeIdeal m) : Cert.MoeIdeal.Experts.Ok m :=
  Cert.MoeIdeal.Experts.ok_of m fun i => by
    unfold Cert.MoeIdeal.Experts.word Cert.MoeIdeal.Experts.tbl
    rw [Cert.MoeIdeal.Experts.V_kept m 0 _ (by decide) (by decide) (by decide) (by decide) (by decide)]
    exact words _ _ _ _ _ _ _ _ (h 0) (i 0)

/-! ## The frames -/

/-- The frame of the kernel at the bit-exact instance. -/
theorem frame_kernel : Cert.quiescent_Moe := fun m ρ h => Cert.Moe.Experts.frame m ρ (ok_kernel m h)

/-- The frame of the kernel at the ideal instance. -/
theorem frame_ideal : Cert.quiescent_MoeIdeal := fun m ρ h => Cert.MoeIdeal.Experts.frame m ρ (ok_ideal m h)

/-- The frame of the reference, whatever the table holds: it ends with its arguments unchanged, and it has no semaphore. -/
theorem frame_reference : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

/-- In particular when it names experts. -/
theorem frame_reference_named : Cert.quiescent_MoeRefIdeal_pre_experts_named := fun m ρ _ => frame_reference m ρ trivial

/-! ## The values -/

/-- The routed experts' output of the kernel's arguments on device `c`. -/
def answer (m : (ℓ : Loc Cert.MoeIdeal.nD Cert.MoeIdeal.τ Cert.MoeIdeal.sig) → Buf (Elt Ideal) ℓ) (c : Dev Cert.MoeIdeal.nD) :
    FVec Ideal ⟨2, ![139264, 1024]⟩ .bf16 :=
  routedAll (MoeIdeal.Array.A0 m c) (MoeIdeal.Array.A1 m c) (MoeIdeal.Array.A2 m c) (MoeIdeal.Array.A3 m c)
    (MoeIdeal.Array.A4 m c) (MoeIdeal.Array.A5 m c) (MoeIdeal.Array.A6 m c) (MoeIdeal.Array.A7 m c)

/-- Kernel and reference agree: from equal arguments both end with the routed experts' output of them. -/
theorem equal : Cert.algebraic_MoeIdeal_MoeRefIdeal := by
  intro m ρ m' ρ' hp hag
  have hb : ∀ c i, (MoeIdeal.Array.A0 m c (ix1 i)).toNat < 32 := fun c i => words _ _ _ _ _ _ _ _ (hp c) i
  refine ⟨answer m, ?_, ?_⟩
  · exact (θ_run _ _ _).mono (fun _ h c => ⟨(h.1 c).2.trans (Cert.MoeIdeal.Array.array m (ok_ideal m hp) c (hb c)), (h.1 c).1⟩)
      (Cert.MoeIdeal.Experts.run (F := Ideal) m ρ (ok_ideal m hp))
  · refine (θ_run _ _ _).mono (fun _ h c => ⟨(h c).1.trans ?_, (h c).2⟩) (Cert.MoeRefIdeal.Value.run (F := Ideal) m' ρ')
    obtain ⟨h0, h1, h2, h3, h4, h5, h6, h7⟩ := hag c
    rw [Cert.MoeRefIdeal.Rows.printed, h0, h1, h2, h3, h4, h5, h6, h7]
    exact Cert.MoeRefIdeal.Rows.result _ _ _ _ _ _ _ _ (hb c)

end Cert.MoeClaims

end
-- ==== Proof.InModel.lean ====
/- The input projection, as scalars: a token's row normed by the root of its mean square, times a weight matrix. -/
module

public import Idealize.ShloMosaic.Lib.Pipeline.ValueKit

@[expose] public section

noncomputable section

namespace Cert.Projected

open Idealize.ShloMosaic

/-- The row `x` over the root of its mean square, times the norm's weights. -/
def normed (x g : Fin 1024 → EReal) (d : Fin 1024) : EReal :=
  x d * Ideal.rsqrt (Ideal.div (∑ e, x e * x e) (Ideal.ofBits .f32 0x44800000#32) + Ideal.ofBits .f32 0x358637BD#32) * g d

/-- The normed row times one column of the weights. -/
def project (x g w : Fin 1024 → EReal) : EReal := ∑ d, normed x g d * w d

/-- Every token's normed row times every column of the weights. -/
def projectAll {n : ℕ} {f : FTy} (x : FVec Ideal ⟨2, ![32768, 1024]⟩ .f32) (g : FVec Ideal ⟨1, ![1024]⟩ .f32)
    (w : FVec Ideal ⟨2, ![1024, n]⟩ .f32) : FVec Ideal ⟨2, ![32768, n]⟩ f :=
  fun y => project (fun d => x (ix2 (y 0) d)) (fun d => g (ix1 d)) (fun d => w (ix2 d (y 1)))

end Cert.Projected

end
-- ==== Proof.InBlock.lean ====
/- What one grid point of the input projection computes: 512 tokens, normed, times the weights, the wide weights in
   strips of 512 columns and a last one of 256. -/
module

public import proofs.«01_k».proof.Proof.Gen.InprojIdeal.Value
public import proofs.«01_k».proof.Proof.InModel
public import Idealize.ShloMosaic.Lib.Pipeline.ReadBack

@[expose] public section

set_option maxRecDepth 16384

noncomputable section

namespace Cert.InprojIdeal.Block

open Cert.InprojIdeal Cert.InprojIdeal.Gen Cert.Projected Idealize.ShloMosaic Idealize.ShloMosaic.TcCoe Idealize.SL.Sem

/-- The normed tokens. -/
theorem normed_at (x : Vec Ideal S512x1024 .f32) (g : Vec Ideal S1x1024 .f32) (r : Fin 512) (d : Fin 1024) :
    k0_pay5 x g (ix2 r d) = normed (fun d => x (ix2 r d)) (fun d => g (ix2 0 d)) d := by
  unfold k0_pay5
  pointwise
  rfl

/-- A strip of 512 columns. -/
theorem strip_at (h : FVec Ideal S512x1024 .bf16) (w : Vec Ideal S1024x512 .bf16) (r j : Fin 512) :
    k0_pay1 h w (ix2 r j) = ∑ d, h (ix2 r d) * w (ix2 d j) := by
  unfold k0_pay1
  pointwise

/-- The last strip. -/
theorem last_at (h : FVec Ideal S512x1024 .bf16) (w : Vec Ideal S1024x256 .bf16) (r : Fin 512) (j : Fin 256) :
    k0_pay3 h w (ix2 r j) = ∑ d, h (ix2 r d) * w (ix2 d j) := by
  unfold k0_pay3
  pointwise

/-- The narrow weights. -/
theorem small_at (h : FVec Ideal S512x1024 .bf16) (w : Vec Ideal S1024x128 .bf16) (r : Fin 512) (j : Fin 128) :
    k0_pay4 h w (ix2 r j) = ∑ d, h (ix2 r d) * w (ix2 d j) := by
  unfold k0_pay4
  pointwise

variable (c : Dev nD) (i : grid0.Coords) (a1 : Memref sig .tc .vmem S512x1024 .f32) (h1 : a1.IsWhole)
  (a2 : Memref sig .tc .vmem S1x1024 .f32) (h2 : a2.IsWhole) (a3 : Memref sig .tc .vmem S1024x2816 .bf16) (h3 : a3.IsWhole)
  (a4 : Memref sig .tc .vmem S1024x128 .bf16) (h4 : a4.IsWhole) (a5 : Memref sig .tc .vmem S512x2816 .bf16) (h5 : a5.IsWhole)
  (a6 : Memref sig .tc .vmem S512x128 .f32) (h6 : a6.IsWhole)
  (x : Vec Ideal S512x1024 .f32) (g : Vec Ideal S1x1024 .f32) (w : Vec Ideal S1024x2816 .bf16) (s : Vec Ideal S1024x128 .bf16)

/-- What the wide output's block holds. -/
def wideOut (y : S512x2816.Idx) : EReal := project (fun d => x (ix2 (y 0) d)) (fun d => g (ix2 0 d)) (fun d => w (ix2 d (y 1)))

section Strips
variable (o : ℕ)

/-- A strip of 512 columns is a strip of the wide output. -/
theorem strip_of (hi : ∀ a, (![0, o] : Fin 2 → ℕ) a + S512x512.size a ≤ S512x2816.size a)
    (hw : ∀ a, (![0, o] : Fin 2 → ℕ) a + S1024x512.size a ≤ S1024x2816.size a) (z : S512x512.Idx) :
    k0_pay1 (k0_pay5 x g) (View.ld w (Rect.unit (s := S1024x2816) ![0, o] S1024x512.size hw)) z
      = wideOut x g w ((Rect.unit (s := S512x2816) ![0, o] S512x512.size hi).emb z) := by
  obtain ⟨r, j, rfl⟩ : ∃ (r j : Fin 512), z = ix2 r j := ⟨z 0, z 1, by funext a; match a with | ⟨0, _⟩ => rfl | ⟨1, _⟩ => rfl⟩
  rw [strip_at]
  have hj : o + j.val < 2816 := by have : o + 512 ≤ 2816 := hi 1; omega
  have e : (Rect.unit (s := S512x2816) ![0, o] S512x512.size hi).emb (ix2 r j) = ix2 r (⟨o + j.val, hj⟩ : Fin 2816) := by
    funext a
    refine Fin.ext ((Rect.idx_unit_val _ _ _ _ a).trans ?_)
    fin_cases a
    · exact Nat.zero_add _
    · rfl
  rw [e]
  unfold wideOut project
  refine Finset.sum_congr rfl fun d _ => ?_
  rw [normed_at]
  refine congrArg (_ * ·) (View.ld_unit_apply_of _ _ _ _ _ _ fun a => ?_)
  fin_cases a
  · exact (Nat.zero_add _).symm
  · rfl

/-- And so is the last one. -/
theorem last_of (hi : ∀ a, (![0, o] : Fin 2 → ℕ) a + S512x256.size a ≤ S512x2816.size a)
    (hw : ∀ a, (![0, o] : Fin 2 → ℕ) a + S1024x256.size a ≤ S1024x2816.size a) (z : S512x256.Idx) :
    k0_pay3 (k0_pay5 x g) (View.ld w (Rect.unit (s := S1024x2816) ![0, o] S1024x256.size hw)) z
      = wideOut x g w ((Rect.unit (s := S512x2816) ![0, o] S512x256.size hi).emb z) := by
  obtain ⟨r, j, rfl⟩ : ∃ (r : Fin 512) (j : Fin 256), z = ix2 r j := ⟨z 0, z 1, by funext a; match a with | ⟨0, _⟩ => rfl | ⟨1, _⟩ => rfl⟩
  rw [last_at]
  have hj : o + j.val < 2816 := by have : o + 256 ≤ 2816 := hi 1; omega
  have e : (Rect.unit (s := S512x2816) ![0, o] S512x256.size hi).emb (ix2 r j) = ix2 r (⟨o + j.val, hj⟩ : Fin 2816) := by
    funext a
    refine Fin.ext ((Rect.idx_unit_val _ _ _ _ a).trans ?_)
    fin_cases a
    · exact Nat.zero_add _
    · rfl
  rw [e]
  unfold wideOut project
  refine Finset.sum_congr rfl fun d _ => ?_
  rw [normed_at]
  refine congrArg (_ * ·) (View.ld_unit_apply_of _ _ _ _ _ _ fun a => ?_)
  fin_cases a
  · exact (Nat.zero_add _).symm
  · rfl

end Strips

/-- Pieces that cover an index and hold a function's values leave the function's value there. -/
theorem canon_of_piecesOf {s : Shape} {e : EltTy} (G : s.Idx → Elt Ideal e) (L : List (View.Piece (Elt Ideal) s e)) (h : View.PiecesOf G L)
    (y : s.Idx) (hc : ∃ p ∈ L, y ∈ p.1.set) : View.canon L y = G y := by
  have q := View.canon_append_of_piecesOf G [] L h y hc
  rwa [List.append_nil] at q

/-- The wide output's block: every token of the block, normed, times every column. -/
theorem wide (y : S512x2816.Idx) : out0_A_4 c i a1 h1 a2 h2 a3 h3 a4 h4 a5 h5 a6 h6 x g w s y = wideOut x g w y := by
  frame_out
  refine canon_of_piecesOf (e := .bf16) (wideOut x g w) _ ?_ y (View.cover_of_tiledBy _ ![512, 256] (by sl_kernel_rfl) y)
  exact ⟨last_of x g w 2560 inb_S512x2816_S512x256_0_2560 inb_S1024x2816_S1024x256_0_2560,
    strip_of x g w 2048 inb_S512x2816_S512x512_0_2048 inb_S1024x2816_S1024x512_0_2048,
    strip_of x g w 1536 inb_S512x2816_S512x512_0_1536 inb_S1024x2816_S1024x512_0_1536,
    strip_of x g w 1024 inb_S512x2816_S512x512_0_1024 inb_S1024x2816_S1024x512_0_1024,
    strip_of x g w 512 inb_S512x2816_S512x512_0_512 inb_S1024x2816_S1024x512_0_512,
    strip_of x g w 0 inb_S512x2816_S512x512_0_0 inb_S1024x2816_S1024x512_0_0, trivial⟩

/-- The narrow output's block. -/
theorem narrow (r : Fin 512) (j : Fin 128) : out0_A_5 c i a1 h1 a2 h2 a3 h3 a4 h4 a5 h5 a6 h6 x g w s (ix2 r j)
    = project (fun d => x (ix2 r d)) (fun d => g (ix2 0 d)) (fun d => s (ix2 d j)) := by
  frame_out
  refine (small_at _ _ r j).trans ?_
  simp only [normed_at]
  rfl

end Cert.InprojIdeal.Block

end
-- ==== Proof.InArray.lean ====
/- The arrays the input projection leaves: grid point `t` reads tokens `512 t` to `512 t + 511` and the whole weights, and
   the blocks make up both outputs. -/
module

public import proofs.«01_k».proof.Proof.InBlock

@[expose] public section

set_option maxRecDepth 16384

noncomputable section

namespace Cert.InprojIdeal.Array

open Cert.InprojIdeal Cert.InprojIdeal.Gen Cert.InprojIdeal.Block Cert.Projected Idealize.ShloMosaic Idealize.ShloMosaic.TcCoe Idealize.SL.Sem
open Idealize.ShloMosaic.Pipeline (Dat)

variable (m : (ℓ : Loc nD τ sig) → Buf (Elt Ideal) ℓ) (c : Dev nD)

/-- The block a grid point reads or writes in each array. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0]
    ∧ win0_3.index t = ![0, 0] ∧ win0_4.index t = ![t.val, 0] ∧ win0_5.index t = ![t.val, 0])

/-- Token `r` of the grid point's block. -/
def tok (t : Fin cfg0.N) (r : Fin 512) : Fin 32768 := ⟨t.val * 512 + r.val, by have : t.val < 64 := t.isLt; omega⟩

abbrev A0 : FVec Ideal ⟨2, ![32768, 1024]⟩ .f32 := m ((c.tc : Thread nD τ).loc main_arg0)
abbrev A1 : FVec Ideal ⟨1, ![1024]⟩ .f32 := m ((c.tc : Thread nD τ).loc main_arg1)
abbrev A2 : FVec Ideal ⟨2, ![1024, 2816]⟩ .f32 := m ((c.tc : Thread nD τ).loc main_arg2)
abbrev A3 : FVec Ideal ⟨2, ![1024, 128]⟩ .f32 := m ((c.tc : Thread nD τ).loc main_arg3)

theorem x_at (t : Fin cfg0.N) (r : Fin 512) (d : Fin 1024) :
    (iblk m c 0 t : Vec Ideal S512x1024 .f32) (ix2 r d) = A0 m c (ix2 (tok t r) d) := by
  unfold A0 tok
  blk_point [iblk, V, idx t]

theorem g_at (t : Fin cfg0.N) (d : Fin 1024) : (iblk m c 1 t : Vec Ideal S1x1024 .f32) (ix2 0 d) = A1 m c (ix1 d) := by
  unfold A1
  blk_point [iblk, V, idx t]

theorem w_at (t : Fin cfg0.N) (d : Fin 1024) (j : Fin 2816) : (iblk m c 2 t : Vec Ideal S1024x2816 .bf16) (ix2 d j) = A2 m c (ix2 d j) := by
  unfold A2
  blk_point [iblk, V, idx t]

theorem s_at (t : Fin cfg0.N) (d : Fin 1024) (j : Fin 128) : (iblk m c 3 t : Vec Ideal S1024x128 .bf16) (ix2 d j) = A3 m c (ix2 d j) := by
  unfold A3
  blk_point [iblk, V, idx t]

/-- The wide array the kernel leaves. -/
theorem wideArray : (dats m 0 c).arrAt 4 cfg0.N = projectAll (f := .bf16) (A0 m c) (A1 m c) (A2 m c) := by
  refine (dats m 0 c).arrAt_eq_of_covers 4 _ (by decide +kernel) fun t hf y => ?_
  blk_simp
  rw [after0_4, outsAt0]
  dsimp only
  refine (wide c _ _ _ _ _ _ _ _ _ _ _ _ _ _ _ _ _ y).trans ?_
  obtain ⟨r, j, rfl⟩ : ∃ (r : Fin 512) (j : Fin 2816), y = ix2 r j := ⟨y 0, y 1, by funext a; match a with | ⟨0, _⟩ => rfl | ⟨1, _⟩ => rfl⟩
  have e : (win0_4.blk t).view.emb (ix2 r j) = ix2 (tok t r) j := by
    unfold tok
    blk_ext [idx t]
  rw [e]
  show project (fun d => (iblk m c 0 t : Vec Ideal S512x1024 .f32) (ix2 r d)) (fun d => (iblk m c 1 t : Vec Ideal S1x1024 .f32) (ix2 0 d))
    (fun d => (iblk m c 2 t : Vec Ideal S1024x2816 .bf16) (ix2 d j)) = _
  simp only [x_at, g_at, w_at]
  rfl

/-- The narrow array the kernel leaves. -/
theorem narrowArray : (dats m 0 c).arrAt 5 cfg0.N = projectAll (f := .f32) (A0 m c) (A1 m c) (A3 m c) := by
  refine (dats m 0 c).arrAt_eq_of_covers 5 _ (by decide +kernel) fun t hf y => ?_
  blk_simp
  rw [after0_5, outsAt0]
  dsimp only
  obtain ⟨r, j, rfl⟩ : ∃ (r : Fin 512) (j : Fin 128), y = ix2 r j := ⟨y 0, y 1, by funext a; match a with | ⟨0, _⟩ => rfl | ⟨1, _⟩ => rfl⟩
  refine (narrow c _ _ _ _ _ _ _ _ _ _ _ _ _ _ _ _ _ r j).trans ?_
  have e : (win0_5.blk t).view.emb (ix2 r j) = ix2 (tok t r) j := by
    unfold tok
    blk_ext [idx t]
  rw [e]
  simp only [x_at, g_at, s_at]
  rfl

end Cert.InprojIdeal.Array

end
-- ==== Proof.InRef.lean ====
/- What the input projection's reference computes: every token's normed row times the weights. -/
module

public import proofs.«01_k».proof.Proof.Gen.InprojRefIdeal.Run
public import proofs.«01_k».proof.Proof.InModel

@[expose] public section

set_option maxRecDepth 16384

noncomputable section

namespace Cert.InprojRefIdeal.Rows

open Cert.InprojRefIdeal Cert.InprojRefIdeal.Gen Cert.Projected Idealize.ShloMosaic Idealize.ShloMosaic.TcCoe

variable (x : FVec Ideal S32768x1024 .f32) (g : FVec Ideal S1024 .f32) (w : FVec Ideal S1024x2816 .f32) (s : FVec Ideal S1024x128 .f32)

/-- The normed tokens. -/
def normedOf : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0
      (Host.reduceAdd (mulf x x) (constant S_ .f32 0x00000000#32) reducesTo_S32768x1024_S32768_d1 h_S_)) (broadcastInDim S32768x1 ![] bcast_S_S32768x1 (constant S_ .f32 0x44800000#32)))
        (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

theorem normed_at (r : Fin 32768) (d : Fin 1024) : normedOf x g (ix2 r d) = normed (fun d => x (ix2 r d)) (fun d => g (ix1 d)) d := by
  unfold normedOf
  pointwise
  rfl

/-- The wide result. -/
theorem wide : truncf .bf16 (Host.dotGeneral dot_S32768x1024_S1024x2816_S32768x2816_1_0_0_1_n_n none (normedOf x g) w) bitsLt_bf16_f32
    = projectAll x g w := by
  funext y
  obtain ⟨r, j, rfl⟩ : ∃ (r : Fin 32768) (j : Fin 2816), y = ix2 r j := ⟨y 0, y 1, by funext a; match a with | ⟨0, _⟩ => rfl | ⟨1, _⟩ => rfl⟩
  refine Eq.trans (b := ∑ d, normedOf x g (ix2 r d) * w (ix2 d j)) ?_
    (Finset.sum_congr rfl fun d _ => congrArg (· * w (ix2 d j)) (normed_at x g r d))
  generalize normedOf x g = h
  pointwise

/-- The narrow result. -/
theorem narrow : Host.dotGeneral dot_S32768x1024_S1024x128_S32768x128_1_0_0_1_n_n none (normedOf x g) s = projectAll x g s := by
  funext y
  obtain ⟨r, j, rfl⟩ : ∃ (r : Fin 32768) (j : Fin 128), y = ix2 r j := ⟨y 0, y 1, by funext a; match a with | ⟨0, _⟩ => rfl | ⟨1, _⟩ => rfl⟩
  refine Eq.trans (b := ∑ d, normedOf x g (ix2 r d) * s (ix2 d j)) ?_
    (Finset.sum_congr rfl fun d _ => congrArg (· * s (ix2 d j)) (normed_at x g r d))
  generalize normedOf x g = h
  pointwise

end Cert.InprojRefIdeal.Rows

end
-- ==== Proof.InClaims.lean ====
/- The input projection's claims: both programs' results are the projections of the normed tokens, and the frames. -/
module

public import proofs.«01_k».proof.Defs
public import proofs.«01_k».proof.Proof.Gen.Inproj.Frame
public import proofs.«01_k».proof.Proof.Gen.InprojIdeal.Frame
public import proofs.«01_k».proof.Proof.InArray
public import proofs.«01_k».proof.Proof.InRef
public import Idealize.ShloMosaic.Adequacy
public import Idealize.ShloMosaic.Init

@[expose] public section

set_option maxRecDepth 16384

noncomputable section

namespace Cert.InClaims

open Idealize.ShloMosaic Idealize.SL.Sem Cert.Projected

/-- The frame of the kernel at the bit-exact instance. -/
theorem frame_kernel : Cert.quiescent_Inproj := fun m ρ _ => Cert.Inproj.Gen.frame m ρ

/-- The frame of the kernel at the ideal instance. -/
theorem frame_ideal : Cert.quiescent_InprojIdeal := fun m ρ _ => Cert.InprojIdeal.Gen.frame m ρ

/-- The frame of the reference: it ends with its arguments unchanged, and it has no semaphore. -/
theorem frame_reference : Cert.quiescent_InprojRefIdeal := fun m ρ _ =>
  (θ_run Cert.InprojRefIdeal.defs _ _).mono (fun r h => ⟨fun c => (h c).2.2, sem_eq_zero_of_no_sems (by decide) r.2⟩)
    (Cert.InprojRefIdeal.Value.run (F := Ideal) m ρ)

/-- Kernel and reference agree: from equal arguments both end with the projections of the normed tokens. -/
theorem equal : Cert.algebraic_InprojIdeal_InprojRefIdeal := by
  intro m ρ m' ρ' _ hag
  refine ⟨fun c => projectAll (f := .bf16) (InprojIdeal.Array.A0 m c) (InprojIdeal.Array.A1 m c) (InprojIdeal.Array.A2 m c),
    fun c => projectAll (f := .f32) (InprojIdeal.Array.A0 m c) (InprojIdeal.Array.A1 m c) (InprojIdeal.Array.A3 m c), ?_, ?_⟩
  · exact (θ_run _ _ _).mono (fun _ h c => ⟨(h c).1.trans (Cert.InprojIdeal.Array.wideArray m c),
      (h c).2.1.trans (Cert.InprojIdeal.Array.narrowArray m c), (h c).2.2⟩) (Cert.InprojIdeal.Value.run_blocks (F := Ideal) m ρ)
  · refine (θ_run _ _ _).mono (fun _ h c => ⟨(h c).1.trans ?_, (h c).2.1.trans ?_, (h c).2.2⟩) (Cert.InprojRefIdeal.Value.run (F := Ideal) m' ρ')
    · obtain ⟨h0, h1, h2, -⟩ := hag c
      refine (Cert.InprojRefIdeal.Rows.wide _ _ _).trans ?_
      rw [h0, h1, h2]
    · obtain ⟨h0, h1, -, h3⟩ := hag c
      refine (Cert.InprojRefIdeal.Rows.narrow _ _ _).trans ?_
      rw [h0, h1, h3]

end Cert.InClaims

end
-- ==== Proof.OutModel.lean ====
/- The output projection, as scalars: the mixed heads of a token times the weights, on top of the token. -/
module

public import proofs.«01_k».proof.Proof.InModel

@[expose] public section

noncomputable section

namespace Cert.Mixed

open Idealize.ShloMosaic

/-- Position `d` of the first half of the weights' rows. -/
def lo (d : Fin 512) : Fin 1024 := ⟨d.val, by omega⟩

/-- Position `d` of the second half. -/
def hi (d : Fin 512) : Fin 1024 := ⟨512 + d.val, by omega⟩

/-- One entry of the new token: the old one plus both head groups times a column of the weights. -/
def token (a b : Fin 512 → EReal) (x : EReal) (w : Fin 1024 → EReal) : EReal :=
  x + (∑ d, a d * w (lo d) + ∑ d, b d * w (hi d))

/-- Every new token. -/
def tokens {f : FTy} (a b : FVec Ideal ⟨2, ![32768, 512]⟩ .bf16) (x : FVec Ideal ⟨2, ![32768, 1024]⟩ .f32)
    (w : FVec Ideal ⟨2, ![1024, 1024]⟩ .f32) : FVec Ideal ⟨2, ![32768, 1024]⟩ f :=
  fun y => token (fun d => a (ix2 (y 0) d)) (fun d => b (ix2 (y 0) d)) (x (ix2 (y 0) (y 1))) (fun d => w (ix2 d (y 1)))

/-- Every new token, normed. -/
def normedTokens {f : FTy} (a b : FVec Ideal ⟨2, ![32768, 512]⟩ .bf16) (x : FVec Ideal ⟨2, ![32768, 1024]⟩ .f32)
    (w : FVec Ideal ⟨2, ![1024, 1024]⟩ .f32) (g : FVec Ideal ⟨1, ![1024]⟩ .f32) : FVec Ideal ⟨2, ![32768, 1024]⟩ f :=
  fun y => Projected.normed (fun d => tokens (f := .f32) a b x w (ix2 (y 0) d)) (fun d => g (ix1 d)) (y 1)

end Cert.Mixed

end
-- ==== Proof.OutBlock.lean ====
/- What one grid point of the output projection computes: 512 new tokens, and their norms. -/
module

public import proofs.«01_k».proof.Proof.Gen.OutprojIdeal.Value
public import proofs.«01_k».proof.Proof.OutModel
public import Idealize.ShloMosaic.Lib.Pipeline.ReadBack

@[expose] public section

set_option maxRecDepth 16384

noncomputable section

namespace Cert.OutprojIdeal.Block

open Cert.OutprojIdeal Cert.OutprojIdeal.Gen Cert.Mixed Cert.Projected Idealize.ShloMosaic Idealize.ShloMosaic.TcCoe Idealize.SL.Sem

/-- The new tokens, from the two halves of the weights. -/
theorem token_at (a : Vec Ideal S512x512 .bf16) (u : Vec Ideal S512x1024 .bf16) (b : Vec Ideal S512x512 .bf16) (v : Vec Ideal S512x1024 .bf16)
    (x : Vec Ideal S512x1024 .f32) (r : Fin 512) (j : Fin 1024) :
    k0_pay2 a u b v x (ix2 r j) = x (ix2 r j) + (∑ d, a (ix2 r d) * u (ix2 d j) + ∑ d, b (ix2 r d) * v (ix2 d j)) := by
  unfold k0_pay2
  pointwise

/-- The normed tokens, from the new tokens. -/
theorem normed_at (a : Vec Ideal S512x512 .bf16) (u : Vec Ideal S512x1024 .bf16) (b : Vec Ideal S512x512 .bf16) (v : Vec Ideal S512x1024 .bf16)
    (x : Vec Ideal S512x1024 .f32) (g : Vec Ideal S1x1024 .f32) (r : Fin 512) (j : Fin 1024) :
    k0_pay4 a u b v x g (ix2 r j) = normed (fun d => k0_pay2 a u b v x (ix2 r d)) (fun d => g (ix2 0 d)) j := by
  unfold k0_pay4 k0_pay3
  generalize k0_pay2 (F := Ideal) a u b v x = h
  pointwise
  rfl

variable (a b : Vec Ideal S512x512 .bf16) (x : Vec Ideal S512x1024 .f32) (w : Vec Ideal S1024x1024 .bf16) (g : Vec Ideal S1x1024 .f32)
  (p q : Vec Ideal S1024x128 .bf16) (l : Vec Ideal S1x128 .f32)

/-- The new tokens, from the weights. -/
theorem token_of (r : Fin 512) (j : Fin 1024) : k0_pay2 a (View.ld w r0_1) b (View.ld w r0_2) x (ix2 r j)
    = token (fun d => a (ix2 r d)) (fun d => b (ix2 r d)) (x (ix2 r j)) (fun d => w (ix2 d j)) := by
  rw [token_at]
  unfold token
  refine congrArg (_ + ·) (congrArg₂ (· + ·) (Finset.sum_congr rfl fun d _ => congrArg (_ * ·) ?_) (Finset.sum_congr rfl fun d _ => congrArg (_ * ·) ?_))
  · refine View.ld_unit_apply_of _ _ _ _ _ _ fun e => ?_
    fin_cases e
    · exact (Nat.zero_add _).symm
    · exact (Nat.zero_add _).symm
  · refine View.ld_unit_apply_of _ _ _ _ _ _ fun e => ?_
    fin_cases e
    · rfl
    · exact (Nat.zero_add _).symm

/-- The block of new tokens. -/
theorem newTokens (r : Fin 512) (j : Fin 1024) : out0_8 a b x w g p q l (ix2 r j)
    = token (fun d => a (ix2 r d)) (fun d => b (ix2 r d)) (x (ix2 r j)) (fun d => w (ix2 d j)) := by
  refine Eq.trans ?_ (token_of a b x w r j)
  frame_out

/-- The block of normed tokens. -/
theorem newNormed (r : Fin 512) (j : Fin 1024) : out0_9 a b x w g p q l (ix2 r j)
    = normed (fun k => token (fun d => a (ix2 r d)) (fun d => b (ix2 r d)) (x (ix2 r k)) (fun d => w (ix2 d k))) (fun d => g (ix2 0 d)) j := by
  refine Eq.trans (b := k0_pay4 a (View.ld w r0_1) b (View.ld w r0_2) x g (ix2 r j)) ?_ ?_
  · frame_out
  · rw [normed_at]
    simp only [token_of]

end Cert.OutprojIdeal.Block

end
-- ==== Proof.OutArray.lean ====
/- The arrays the output projection leaves: grid point `t` reads and writes tokens `512 t` to `512 t + 511`, and the
   blocks make up both outputs. -/
module

public import proofs.«01_k».proof.Proof.OutBlock

@[expose] public section

set_option maxRecDepth 16384

noncomputable section

namespace Cert.OutprojIdeal.Array

open Cert.OutprojIdeal Cert.OutprojIdeal.Gen Cert.OutprojIdeal.Block Cert.Mixed Cert.Projected Idealize.ShloMosaic Idealize.ShloMosaic.TcCoe Idealize.SL.Sem
open Idealize.ShloMosaic.Pipeline (Dat)

variable (m : (ℓ : Loc nD τ sig) → Buf (Elt Ideal) ℓ) (c : Dev nD)

/-- The block a grid point reads or writes in each array. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_8.index t = ![t.val, 0] ∧ win0_9.index t = ![t.val, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![0, 0] ∧ win0_8.index t = ![t.val, 0] ∧ win0_9.index t = ![t.val, 0])

/-- Token `r` of the grid point's block. -/
def tok (t : Fin cfg0.N) (r : Fin 512) : Fin 32768 := ⟨t.val * 512 + r.val, by have : t.val < 64 := t.isLt; omega⟩

abbrev A0 : FVec Ideal ⟨2, ![32768, 512]⟩ .bf16 := m ((c.tc : Thread nD τ).loc main_arg0)
abbrev A1 : FVec Ideal ⟨2, ![32768, 512]⟩ .bf16 := m ((c.tc : Thread nD τ).loc main_arg1)
abbrev A2 : FVec Ideal ⟨2, ![32768, 1024]⟩ .f32 := m ((c.tc : Thread nD τ).loc main_arg2)
abbrev A3 : FVec Ideal ⟨2, ![1024, 1024]⟩ .f32 := m ((c.tc : Thread nD τ).loc main_arg3)
abbrev A4 : FVec Ideal ⟨1, ![1024]⟩ .f32 := m ((c.tc : Thread nD τ).loc main_arg4)

theorem a_at (t : Fin cfg0.N) (r d : Fin 512) : (iblk m c 0 t : Vec Ideal S512x512 .bf16) (ix2 r d) = A0 m c (ix2 (tok t r) d) := by
  unfold A0 tok
  blk_point [iblk, V, idx t]

theorem b_at (t : Fin cfg0.N) (r d : Fin 512) : (iblk m c 1 t : Vec Ideal S512x512 .bf16) (ix2 r d) = A1 m c (ix2 (tok t r) d) := by
  unfold A1 tok
  blk_point [iblk, V, idx t]

theorem x_at (t : Fin cfg0.N) (r : Fin 512) (d : Fin 1024) :
    (iblk m c 2 t : Vec Ideal S512x1024 .f32) (ix2 r d) = A2 m c (ix2 (tok t r) d) := by
  unfold A2 tok
  blk_point [iblk, V, idx t]

theorem w_at (t : Fin cfg0.N) (d j : Fin 1024) : (iblk m c 3 t : Vec Ideal S1024x1024 .bf16) (ix2 d j) = A3 m c (ix2 d j) := by
  unfold A3
  blk_point [iblk, V, idx t]

theorem g_at (t : Fin cfg0.N) (d : Fin 1024) : (iblk m c 4 t : Vec Ideal S1x1024 .f32) (ix2 0 d) = A4 m c (ix1 d) := by
  unfold A4
  blk_point [iblk, V, idx t]

/-- The array of new tokens the kernel leaves. -/
theorem tokenArray : (dats m 0 c).arrAt 8 cfg0.N = tokens (f := .f32) (A0 m c) (A1 m c) (A2 m c) (A3 m c) := by
  refine (dats m 0 c).arrAt_eq_of_covers 8 _ (by decide +kernel) fun t hf y => ?_
  blk_simp
  rw [after0_8]
  obtain ⟨r, j, rfl⟩ : ∃ (r : Fin 512) (j : Fin 1024), y = ix2 r j := ⟨y 0, y 1, by funext a; match a with | ⟨0, _⟩ => rfl | ⟨1, _⟩ => rfl⟩
  refine (newTokens _ _ _ _ _ _ _ _ r j).trans ?_
  have e : (win0_8.blk t).view.emb (ix2 r j) = ix2 (tok t r) j := by
    unfold tok
    blk_ext [idx t]
  rw [e]
  simp only [a_at, b_at, x_at, w_at]
  rfl

/-- The array of normed tokens the kernel leaves. -/
theorem normedArray : (dats m 0 c).arrAt 9 cfg0.N = normedTokens (f := .bf16) (A0 m c) (A1 m c) (A2 m c) (A3 m c) (A4 m c) := by
  refine (dats m 0 c).arrAt_eq_of_covers 9 _ (by decide +kernel) fun t hf y => ?_
  blk_simp
  rw [after0_9]
  obtain ⟨r, j, rfl⟩ : ∃ (r : Fin 512) (j : Fin 1024), y = ix2 r j := ⟨y 0, y 1, by funext a; match a with | ⟨0, _⟩ => rfl | ⟨1, _⟩ => rfl⟩
  refine (newNormed _ _ _ _ _ _ _ _ r j).trans ?_
  have e : (win0_9.blk t).view.emb (ix2 r j) = ix2 (tok t r) j := by
    unfold tok
    blk_ext [idx t]
  rw [e]
  simp only [a_at, b_at, x_at, w_at, g_at]
  rfl

end Cert.OutprojIdeal.Array

end
-- ==== Proof.OutRef.lean ====
/- What the output projection's reference computes: the two head groups side by side times the weights, on top of the
   tokens, and the norms of that. -/
module

public import proofs.«01_k».proof.Proof.Gen.OutprojRefIdeal.Run
public import proofs.«01_k».proof.Proof.OutModel

@[expose] public section

set_option maxRecDepth 16384

noncomputable section

namespace Cert.OutprojRefIdeal.Rows

open Cert.OutprojRefIdeal Cert.OutprojRefIdeal.Gen Cert.Mixed Cert.Projected Idealize.ShloMosaic Idealize.ShloMosaic.TcCoe

variable (a b : FVec Ideal S32768x512 .bf16) (x : FVec Ideal S32768x1024 .f32) (w : FVec Ideal S1024x1024 .f32) (g : FVec Ideal S1024 .f32)

/-- The new tokens, as the reference writes them. -/
def tokensOf : FVec Ideal S32768x1024 .f32 :=
  addf x (Host.dotGeneral dot_S32768x1024_S1024x1024_S32768x1024_1_0_0_1_n_n none
    (extf .f32 (concatenate S32768x1024 1 [⟨S32768x512, a⟩, ⟨S32768x512, b⟩] concatenates_S32768x512_S32768x512_S32768x1024_d1) bitsLt_bf16_f32) w)

/-- They are the sums over both head groups. -/
theorem tokensOf_eq : tokensOf a b x w = tokens a b x w := by
  funext y
  obtain ⟨r, j, rfl⟩ : ∃ (r : Fin 32768) (j : Fin 1024), y = ix2 r j := ⟨y 0, y 1, by funext a; match a with | ⟨0, _⟩ => rfl | ⟨1, _⟩ => rfl⟩
  unfold tokensOf
  pointwise
  rfl

/-- The norms of rows, as the reference writes them. -/
def normedOf : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0
      (Host.reduceAdd (mulf x x) (constant S_ .f32 0x00000000#32) reducesTo_S32768x1024_S32768_d1 h_S_)) (broadcastInDim S32768x1 ![] bcast_S_S32768x1 (constant S_ .f32 0x44800000#32)))
        (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

theorem normed_at (r : Fin 32768) (d : Fin 1024) : normedOf x g (ix2 r d) = normed (fun d => x (ix2 r d)) (fun d => g (ix1 d)) d := by
  unfold normedOf
  pointwise
  rfl

/-- The normed tokens. -/
theorem normedTokens_eq : truncf .bf16 (normedOf (tokensOf a b x w) g) bitsLt_bf16_f32 = normedTokens a b x w g := by
  funext y
  obtain ⟨r, j, rfl⟩ : ∃ (r : Fin 32768) (j : Fin 1024), y = ix2 r j := ⟨y 0, y 1, by funext a; match a with | ⟨0, _⟩ => rfl | ⟨1, _⟩ => rfl⟩
  rw [tokensOf_eq]
  exact normed_at (tokens a b x w) g r j

end Cert.OutprojRefIdeal.Rows

end
-- ==== Proof.OutClaims.lean ====
/- The output projection's claims: both programs leave the same new tokens and normed tokens, and the frames. -/
module

public import proofs.«01_k».proof.Defs
public import proofs.«01_k».proof.Proof.Gen.Outproj.Frame
public import proofs.«01_k».proof.Proof.Gen.OutprojIdeal.Frame
public import proofs.«01_k».proof.Proof.OutArray
public import proofs.«01_k».proof.Proof.OutRef
public import Idealize.ShloMosaic.Adequacy
public import Idealize.ShloMosaic.Init

@[expose] public section

set_option maxRecDepth 16384

noncomputable section

namespace Cert.OutClaims

open Idealize.ShloMosaic Idealize.SL.Sem Cert.Mixed

/-- The frame of the kernel at the bit-exact instance. -/
theorem frame_kernel : Cert.quiescent_Outproj := fun m ρ _ => Cert.Outproj.Gen.frame m ρ

/-- The frame of the kernel at the ideal instance. -/
theorem frame_ideal : Cert.quiescent_OutprojIdeal := fun m ρ _ => Cert.OutprojIdeal.Gen.frame m ρ

/-- The frame of the reference: it ends with its arguments unchanged, and it has no semaphore. -/
theorem frame_reference : Cert.quiescent_OutprojRefIdeal := fun m ρ _ =>
  (θ_run Cert.OutprojRefIdeal.defs _ _).mono (fun r h => ⟨fun c => (h c).2.2, sem_eq_zero_of_no_sems (by decide) r.2⟩)
    (Cert.OutprojRefIdeal.Value.run (F := Ideal) m ρ)

/-- Kernel and reference agree: from equal arguments both end with the same new tokens and the same normed tokens. -/
theorem equal : Cert.algebraic_OutprojIdeal_OutprojRefIdeal := by
  intro m ρ m' ρ' _ hag
  refine ⟨fun c => tokens (f := .f32) (OutprojIdeal.Array.A0 m c) (OutprojIdeal.Array.A1 m c) (OutprojIdeal.Array.A2 m c) (OutprojIdeal.Array.A3 m c),
    fun c => normedTokens (f := .bf16) (OutprojIdeal.Array.A0 m c) (OutprojIdeal.Array.A1 m c) (OutprojIdeal.Array.A2 m c)
      (OutprojIdeal.Array.A3 m c) (OutprojIdeal.Array.A4 m c), ?_, ?_⟩
  · exact (θ_run _ _ _).mono (fun _ h c => ⟨(h c).1.trans (Cert.OutprojIdeal.Array.tokenArray m c),
      (h c).2.1.trans (Cert.OutprojIdeal.Array.normedArray m c), (h c).2.2.2⟩) (Cert.OutprojIdeal.Value.run_blocks (F := Ideal) m ρ)
  · refine (θ_run _ _ _).mono (fun _ h c => ⟨(h c).1.trans ?_, (h c).2.1.trans ?_, (h c).2.2⟩) (Cert.OutprojRefIdeal.Value.run (F := Ideal) m' ρ')
    · obtain ⟨h0, h1, h2, h3, -⟩ := hag c
      refine (Cert.OutprojRefIdeal.Rows.tokensOf_eq _ _ _ _).trans ?_
      rw [h0, h1, h2, h3]
    · obtain ⟨h0, h1, h2, h3, h4, -⟩ := hag c
      refine (Cert.OutprojRefIdeal.Rows.normedTokens_eq _ _ _ _ _).trans ?_
      rw [h0, h1, h2, h3, h4]

end Cert.OutClaims

end
-- ==== Proof.CmpModel.lean ====
/- The compression of keys and values, as scalars: a block of 32 tokens, each with a position embedding on top, through
   two matrices with `x · logistic x` in between. -/
module

public import Idealize.ShloMosaic.Lib.Pipeline.ValueKit

@[expose] public section

noncomputable section

namespace Cert.Compressed

open Idealize.ShloMosaic

/-- Position `k` of the first half of a block's 2048 numbers. -/
def lo (k : Fin 1024) : Fin 2048 := ⟨k.val, by omega⟩

/-- Position `k` of the second half. -/
def hi (k : Fin 1024) : Fin 2048 := ⟨1024 + k.val, by omega⟩

/-- A sum over a block is the sum over both halves. -/
theorem sum_halves (f : Fin 2048 → EReal) : ∑ k, f k = ∑ k, f (lo k) + ∑ k, f (hi k) := Fin.sum_univ_add (a := 1024) (b := 1024) f

/-- `x` times its logistic function. -/
def gated (x : EReal) : EReal := x * Ideal.logistic x

/-- One hidden number of a block with numbers `t`: both halves times a column of the first matrix. -/
def hidden (t w : Fin 2048 → EReal) : EReal := ∑ k, t (lo k) * w (lo k) + ∑ k, t (hi k) * w (hi k)

/-- One number of the compressed block: the gated hidden numbers times a column of the second matrix. -/
def entry (t : Fin 2048 → EReal) (w : Fin 2048 → Fin 256 → EReal) (v : Fin 256 → EReal) : EReal :=
  ∑ f, gated (hidden t fun k => w k f) * v f

/-- The row `x` over the root of its mean square, times the norm's weights. -/
def normed (x g : Fin 64 → EReal) (d : Fin 64) : EReal :=
  x d * Ideal.rsqrt (Ideal.div (∑ e, x e * x e) (Ideal.ofBits .f32 0x42800000#32) + Ideal.ofBits .f32 0x358637BD#32) * g d

/-- The place of number `k` of a block among its 32 tokens. -/
def within (k : Fin 2048) : Fin 32 := ⟨k.val / 64, by omega⟩

/-- Its place in the head. -/
def inHead (k : Fin 2048) : Fin 64 := ⟨k.val % 64, by omega⟩

/-- The token of number `k` of block `n`: blocks start every 16 tokens, and the one past the last wraps round. -/
def token (n : Fin 128) (k : Fin 2048) : Fin 2048 := ⟨(16 * n.val + k.val / 64) % 2048, by omega⟩

/-- Column `e` of head `h`. -/
def column (h : Fin 2) (e : Fin 64) : Fin 128 := ⟨h.val * 64 + e.val, by omega⟩

/-- Number `k` of block `n` of head `h`, its position embedding on top. -/
def number (t : FVec Ideal ⟨3, ![16, 2048, 128]⟩ .bf16) (p : FVec Ideal ⟨2, ![32, 64]⟩ .f32) (b : Fin 16) (h : Fin 2) (n : Fin 128)
    (k : Fin 2048) : EReal :=
  t (ix3 b (token n k) (column h (inHead k))) + p (ix2 (within k) (inHead k))

/-- The compressed blocks. -/
def blocks {f : FTy} (t : FVec Ideal ⟨3, ![16, 2048, 128]⟩ .bf16) (p : FVec Ideal ⟨2, ![32, 64]⟩ .f32)
    (w : FVec Ideal ⟨2, ![2048, 256]⟩ .f32) (v : FVec Ideal ⟨2, ![256, 64]⟩ .f32) : FVec Ideal ⟨4, ![16, 2, 128, 64]⟩ f :=
  fun y => entry (number t p (y 0) (y 1) (y 2)) (fun k f => w (ix2 k f)) fun f => v (ix2 f (y 3))

/-- The compressed blocks, normed. -/
def normedBlocks {f : FTy} (t : FVec Ideal ⟨3, ![16, 2048, 128]⟩ .bf16) (p : FVec Ideal ⟨2, ![32, 64]⟩ .f32)
    (w : FVec Ideal ⟨2, ![2048, 256]⟩ .f32) (v : FVec Ideal ⟨2, ![256, 64]⟩ .f32) (g : FVec Ideal ⟨2, ![3, 64]⟩ .f32) :
    FVec Ideal ⟨4, ![16, 2, 128, 64]⟩ f :=
  fun y => normed (fun d => blocks (f := .f32) t p w v (ix4 (y 0) (y 1) (y 2) d)) (fun d => g (ix2 0 d)) (y 3)

end Cert.Compressed

end
-- ==== Proof.CmpBlock.lean ====
/- What one grid point of the compression computes: the 128 blocks of one head of one sequence. -/
module

public import proofs.«01_k».proof.Proof.Gen.KvprepIdeal.Value
public import proofs.«01_k».proof.Proof.CmpModel
public import Idealize.ShloMosaic.Lib.Pipeline.ReadBack

@[expose] public section

set_option maxRecDepth 16384

noncomputable section

namespace Cert.KvprepIdeal.Block

open Cert.KvprepIdeal Cert.KvprepIdeal.Gen Cert.Compressed Idealize.ShloMosaic Idealize.ShloMosaic.TcCoe Idealize.SL.Sem

/-- The row after `n`, the last row's being the first. -/
def next (n : Fin 128) : Fin 128 := ⟨(n.val + 1) % 128, by omega⟩

theorem pay_eq (x : Vec Ideal S1x1x128x1024 .bf16) (p q : Vec Ideal S1x1024 .f32) (u w : Vec Ideal S1024x256 .bf16) (v : Vec Ideal S256x64 .bf16) :
    k0_pay6 x p q u w v = truncf .bf16 (k0_pay3 x p q u w v) bitsLt_bf16_f32 := rfl

/-- The compressed rows, from both halves of the embedding and of the first matrix. -/
theorem row_at (x : Vec Ideal S1x1x128x1024 .bf16) (p q : Vec Ideal S1x1024 .f32) (u w : Vec Ideal S1024x256 .bf16) (v : Vec Ideal S256x64 .bf16)
    (n : Fin 128) (d : Fin 64) : k0_pay3 x p q u w v (ix2 n d)
      = ∑ f, gated (∑ k, (x (ix4 0 0 n k) + p (ix2 0 k)) * u (ix2 k f) + ∑ k, (x (ix4 0 0 (next n) k) + q (ix2 0 k)) * w (ix2 k f)) * v (ix2 f d) := by
  unfold k0_pay3
  pointwise
  have e : ∀ h, (⟨(n.val + 128 - 127) % 128, h⟩ : Fin 128) = next n := fun h => Fin.ext (congrArg (· % 128) (by omega))
  simp only [e]
  rfl

/-- The normed rows, from the rows. -/
theorem normed_at (x : Vec Ideal S1x1x128x1024 .bf16) (p q : Vec Ideal S1x1024 .f32) (u w : Vec Ideal S1024x256 .bf16) (v : Vec Ideal S256x64 .bf16)
    (g : Vec Ideal S1x64 .f32) (n : Fin 128) (d : Fin 64) : k0_pay5 (k0_pay3 x p q u w v) g (k0_pay4 x p q u w v) (ix4 0 0 n d)
      = normed (fun d => k0_pay3 x p q u w v (ix2 n d)) (fun d => g (ix2 0 d)) d := by
  unfold k0_pay5 k0_pay4
  generalize k0_pay3 (F := Ideal) x p q u w v = h
  pointwise
  rfl

/-- One number of the compressed row `n`, from the rows of half blocks, the embedding and both matrices. -/
def compressed (x : Vec Ideal S1x1x128x1024 .bf16) (p : Vec Ideal S1x2048 .f32) (w : Vec Ideal S2048x256 .bf16) (v : Vec Ideal S256x64 .bf16)
    (n : Fin 128) (d : Fin 64) : EReal :=
  ∑ f, gated (∑ k, (x (ix4 0 0 n k) + p (ix2 0 (lo k))) * w (ix2 (lo k) f) + ∑ k, (x (ix4 0 0 (next n) k) + p (ix2 0 (hi k))) * w (ix2 (hi k) f)) * v (ix2 f d)

/-- The compressed rows, from the embedding and the matrices the grid point reads. -/
theorem row_of (x : Vec Ideal S1x1x128x1024 .bf16) (p : Vec Ideal S1x2048 .f32) (w : Vec Ideal S2048x256 .bf16) (v : Vec Ideal S256x64 .bf16)
    (n : Fin 128) (d : Fin 64) : k0_pay3 x (View.ld p r0_1) (View.ld p r0_2) (View.ld w r0_3) (View.ld w r0_4) v (ix2 n d) = compressed x p w v n d := by
  have p1 : ∀ k : Fin 1024, (View.ld p r0_1 : Vec Ideal S1x1024 .f32) (ix2 0 k) = p (ix2 0 (lo k)) := fun k =>
    View.ld_unit_apply_of _ _ _ _ _ _ fun e => by
      fin_cases e
      · rfl
      · exact (Nat.zero_add _).symm
  have p2 : ∀ k : Fin 1024, (View.ld p r0_2 : Vec Ideal S1x1024 .f32) (ix2 0 k) = p (ix2 0 (hi k)) := fun k =>
    View.ld_unit_apply_of _ _ _ _ _ _ fun e => by
      fin_cases e
      · rfl
      · rfl
  have w1 : ∀ (k : Fin 1024) (f : Fin 256), (View.ld w r0_3 : Vec Ideal S1024x256 .bf16) (ix2 k f) = w (ix2 (lo k) f) := fun k f =>
    View.ld_unit_apply_of _ _ _ _ _ _ fun e => by
      fin_cases e
      · exact (Nat.zero_add _).symm
      · exact (Nat.zero_add _).symm
  have w2 : ∀ (k : Fin 1024) (f : Fin 256), (View.ld w r0_4 : Vec Ideal S1024x256 .bf16) (ix2 k f) = w (ix2 (hi k) f) := fun k f =>
    View.ld_unit_apply_of _ _ _ _ _ _ fun e => by
      fin_cases e
      · rfl
      · exact (Nat.zero_add _).symm
  rw [row_at]
  simp only [p1, p2, w1, w2]
  rfl

variable (x0 x1 : Vec Ideal S1x1x128x1024 .bf16) (x2 x3 : Vec Ideal S1x1x2048x64 .bf16) (x4 x5 : Vec Ideal S1x2048x64 .f32) (x6 : Vec Ideal S3x64 .f32)
  (x7 : Vec Ideal S64x64 .bf16) (x8 : Vec Ideal S1x2048 .f32) (x9 : Vec Ideal S2048x256 .bf16) (x10 : Vec Ideal S256x64 .bf16)
  (x11 : Vec Ideal S1x2048 .f32) (x12 : Vec Ideal S2048x256 .bf16) (x13 : Vec Ideal S256x64 .bf16)

/-- The block of compressed keys: the first row of norm weights is theirs. -/
theorem keys (n : Fin 128) (d : Fin 64) : out0_14 x0 x1 x2 x3 x4 x5 x6 x7 x8 x9 x10 x11 x12 x13 (ix4 0 0 n d)
    = normed (fun d => compressed x0 x8 x9 x10 n d) (fun d => x6 (ix2 0 d)) d := by
  refine Eq.trans (b := k0_pay5 (k0_pay3 x0 (View.ld x8 r0_1) (View.ld x8 r0_2) (View.ld x9 r0_3) (View.ld x9 r0_4) x10) (View.ld x6 r0_6)
    (k0_pay4 x0 (View.ld x8 r0_1) (View.ld x8 r0_2) (View.ld x9 r0_3) (View.ld x9 r0_4) x10) (ix4 0 0 n d)) ?_ ?_
  · frame_out
  · have g : ∀ d : Fin 64, (View.ld x6 r0_6 : Vec Ideal S1x64 .f32) (ix2 0 d) = x6 (ix2 0 d) := fun d =>
      View.ld_unit_apply_of _ _ _ _ _ _ fun e => by
        fin_cases e
        · rfl
        · exact (Nat.zero_add _).symm
    rw [normed_at]
    simp only [row_of, g]

/-- The block of compressed values. -/
theorem values (n : Fin 128) (d : Fin 64) : out0_15 x0 x1 x2 x3 x4 x5 x6 x7 x8 x9 x10 x11 x12 x13 (ix4 0 0 n d) = compressed x1 x11 x12 x13 n d := by
  refine Eq.trans (b := k0_pay7 (k0_pay6 x1 (View.ld x11 r0_1) (View.ld x11 r0_2) (View.ld x12 r0_3) (View.ld x12 r0_4) x13) (ix4 0 0 n d)) ?_ ?_
  · frame_out
  · rw [pay_eq, ← row_of]
    unfold k0_pay7
    pointwise

end Cert.KvprepIdeal.Block

end
-- ==== Proof.CmpRead.lean ====
/- What the compression's grid points read: grid point `t` reads head `t mod 2` of sequence `t / 2`. -/
module

public import proofs.«01_k».proof.Proof.CmpBlock

@[expose] public section

set_option maxRecDepth 16384

noncomputable section

namespace Cert.KvprepIdeal.Array

open Cert.KvprepIdeal Cert.KvprepIdeal.Gen Cert.KvprepIdeal.Block Cert.Compressed Idealize.ShloMosaic Idealize.ShloMosaic.TcCoe Idealize.SL.Sem
open Idealize.ShloMosaic.Pipeline (Dat)

variable (m : (ℓ : Loc nD τ sig) → Buf (Elt Ideal) ℓ) (c : Dev nD)

/-- The block a grid point reads or writes in each array. -/
theorem idx : ∀ t : Fin cfg0.N, win0_0.index t = ![t.val / 2, t.val % 2, 0, 0] ∧ win0_1.index t = ![t.val / 2, t.val % 2, 0, 0]
    ∧ win0_6.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0]
    ∧ win0_14.index t = ![t.val / 2, t.val % 2, 0, 0] ∧ win0_15.index t = ![t.val / 2, t.val % 2, 0, 0] :=
  (by decide +kernel : ∀ t : Fin grid0.N, win0_0.index t = ![t.val / 2, t.val % 2, 0, 0] ∧ win0_1.index t = ![t.val / 2, t.val % 2, 0, 0]
    ∧ win0_6.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0]
    ∧ win0_14.index t = ![t.val / 2, t.val % 2, 0, 0] ∧ win0_15.index t = ![t.val / 2, t.val % 2, 0, 0])

/-- The grid point's sequence. -/
def seq (t : Fin cfg0.N) : Fin 16 := ⟨t.val / 2, by have : t.val < 32 := t.isLt; omega⟩

/-- The grid point's head. -/
def head (t : Fin cfg0.N) : Fin 2 := ⟨t.val % 2, by omega⟩

abbrev A0 : FVec Ideal ⟨3, ![16, 2048, 128]⟩ .bf16 := m ((c.tc : Thread nD τ).loc main_arg0)
abbrev A1 : FVec Ideal ⟨3, ![16, 2048, 128]⟩ .bf16 := m ((c.tc : Thread nD τ).loc main_arg1)
abbrev A5 : FVec Ideal ⟨2, ![3, 64]⟩ .f32 := m ((c.tc : Thread nD τ).loc main_arg5)
abbrev A6 : FVec Ideal ⟨2, ![32, 64]⟩ .f32 := m ((c.tc : Thread nD τ).loc main_arg6)
abbrev A7 : FVec Ideal ⟨2, ![2048, 256]⟩ .f32 := m ((c.tc : Thread nD τ).loc main_arg7)
abbrev A8 : FVec Ideal ⟨2, ![256, 64]⟩ .f32 := m ((c.tc : Thread nD τ).loc main_arg8)
abbrev A9 : FVec Ideal ⟨2, ![32, 64]⟩ .f32 := m ((c.tc : Thread nD τ).loc main_arg9)
abbrev A10 : FVec Ideal ⟨2, ![2048, 256]⟩ .f32 := m ((c.tc : Thread nD τ).loc main_arg10)
abbrev A11 : FVec Ideal ⟨2, ![256, 64]⟩ .f32 := m ((c.tc : Thread nD τ).loc main_arg11)

set_option maxHeartbeats 2000000 in
theorem keys_at (t : Fin cfg0.N) (n : Fin 128) (k : Fin 1024) : (iblk m c 0 t : Vec Ideal S1x1x128x1024 .bf16) (ix4 0 0 n k)
    = A0 m c (ix3 (seq t) (token n (lo k)) (column (head t) (inHead (lo k)))) := by
  unfold A0
  blk_point [iblk, V, idx t]
  all_goals simp only [seq, token, column, head, inHead, lo]
  all_goals omega

set_option maxHeartbeats 2000000 in
theorem values_at (t : Fin cfg0.N) (n : Fin 128) (k : Fin 1024) : (iblk m c 1 t : Vec Ideal S1x1x128x1024 .bf16) (ix4 0 0 n k)
    = A1 m c (ix3 (seq t) (token n (lo k)) (column (head t) (inHead (lo k)))) := by
  unfold A1
  blk_point [iblk, V, idx t]
  all_goals simp only [seq, token, column, head, inHead, lo]
  all_goals omega

theorem g_at (t : Fin cfg0.N) (d : Fin 64) : (iblk m c 6 t : Vec Ideal S3x64 .f32) (ix2 0 d) = A5 m c (ix2 0 d) := by
  unfold A5
  blk_point [iblk, V, idx t]

set_option maxHeartbeats 2000000 in
theorem pk_at (t : Fin cfg0.N) (k : Fin 2048) : (iblk m c 8 t : Vec Ideal S1x2048 .f32) (ix2 0 k) = A6 m c (ix2 (within k) (inHead k)) := by
  unfold A6 within inHead
  blk_point [iblk, V, idx t]

theorem wk_at (t : Fin cfg0.N) (k : Fin 2048) (f : Fin 256) : (iblk m c 9 t : Vec Ideal S2048x256 .bf16) (ix2 k f) = A7 m c (ix2 k f) := by
  unfold A7
  blk_point [iblk, V, idx t]

theorem uk_at (t : Fin cfg0.N) (f : Fin 256) (d : Fin 64) : (iblk m c 10 t : Vec Ideal S256x64 .bf16) (ix2 f d) = A8 m c (ix2 f d) := by
  unfold A8
  blk_point [iblk, V, idx t]

set_option maxHeartbeats 2000000 in
theorem pv_at (t : Fin cfg0.N) (k : Fin 2048) : (iblk m c 11 t : Vec Ideal S1x2048 .f32) (ix2 0 k) = A9 m c (ix2 (within k) (inHead k)) := by
  unfold A9 within inHead
  blk_point [iblk, V, idx t]

theorem wv_at (t : Fin cfg0.N) (k : Fin 2048) (f : Fin 256) : (iblk m c 12 t : Vec Ideal S2048x256 .bf16) (ix2 k f) = A10 m c (ix2 k f) := by
  unfold A10
  blk_point [iblk, V, idx t]

theorem uv_at (t : Fin cfg0.N) (f : Fin 256) (d : Fin 64) : (iblk m c 13 t : Vec Ideal S256x64 .bf16) (ix2 f d) = A11 m c (ix2 f d) := by
  unfold A11
  blk_point [iblk, V, idx t]

end Cert.KvprepIdeal.Array

end
-- ==== Proof.CmpArray.lean ====
/- The arrays the compression leaves: grid point `t` reads and writes head `t mod 2` of sequence `t / 2`, and the blocks
   make up both outputs. -/
module

public import proofs.«01_k».proof.Proof.CmpRead

@[expose] public section

set_option maxRecDepth 16384

noncomputable section

namespace Cert.KvprepIdeal.Array

open Cert.KvprepIdeal Cert.KvprepIdeal.Gen Cert.KvprepIdeal.Block Cert.Compressed Idealize.ShloMosaic Idealize.ShloMosaic.TcCoe Idealize.SL.Sem
open Idealize.ShloMosaic.Pipeline (Dat)

variable (m : (ℓ : Loc nD τ sig) → Buf (Elt Ideal) ℓ) (c : Dev nD)

/-- The first half of the row after `n` is the second half of block `n`. -/
theorem token_next (n : Fin 128) (k : Fin 1024) : token (next n) (lo k) = token n (hi k) := by
  apply Fin.ext
  simp only [token, next, lo, hi]
  omega

theorem inHead_next (k : Fin 1024) : inHead (lo k) = inHead (hi k) := by
  apply Fin.ext
  simp only [inHead, lo, hi]
  omega

/-- Rows of half blocks, an embedding and matrices read out of the arrays give the numbers of the compressed blocks. -/
theorem compressed_of (x : Vec Ideal S1x1x128x1024 .bf16) (p : Vec Ideal S1x2048 .f32) (w : Vec Ideal S2048x256 .bf16) (v : Vec Ideal S256x64 .bf16)
    (T : FVec Ideal ⟨3, ![16, 2048, 128]⟩ .bf16) (P : FVec Ideal ⟨2, ![32, 64]⟩ .f32) (W : FVec Ideal ⟨2, ![2048, 256]⟩ .f32)
    (U : FVec Ideal ⟨2, ![256, 64]⟩ .f32) (b : Fin 16) (h : Fin 2)
    (hx : ∀ (n : Fin 128) (k : Fin 1024), x (ix4 0 0 n k) = T (ix3 b (token n (lo k)) (column h (inHead (lo k)))))
    (hp : ∀ k : Fin 2048, p (ix2 0 k) = P (ix2 (within k) (inHead k))) (hw : ∀ (k : Fin 2048) (f : Fin 256), w (ix2 k f) = W (ix2 k f))
    (hv : ∀ (f : Fin 256) (d : Fin 64), v (ix2 f d) = U (ix2 f d)) (n : Fin 128) (d : Fin 64) :
    compressed x p w v n d = blocks (f := .f32) T P W U (ix4 b h n d) := by
  have second : ∀ k : Fin 1024, x (ix4 0 0 (next n) k) = T (ix3 b (token n (hi k)) (column h (inHead (hi k)))) := fun k => by
    rw [hx, token_next, inHead_next]
  unfold compressed
  simp only [hx n, second, hp, hw, hv]
  rfl

/-- The array of compressed keys the kernel leaves. -/
theorem keyArray : (dats m 0 c).arrAt 14 cfg0.N = normedBlocks (f := .bf16) (A0 m c) (A6 m c) (A7 m c) (A8 m c) (A5 m c) := by
  refine (dats m 0 c).arrAt_eq_of_covers 14 _ (by decide +kernel) fun t hf y => ?_
  blk_simp
  rw [after0_14]
  obtain ⟨n, d, rfl⟩ : ∃ (n : Fin 128) (d : Fin 64), y = ix4 0 0 n d := ⟨y 2, y 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩
  refine (keys _ _ _ _ _ _ _ _ _ _ _ _ _ _ n d).trans ?_
  have e : (win0_14.blk t).view.emb (ix4 0 0 n d) = ix4 (seq t) (head t) n d := by
    unfold seq head
    blk_ext [idx t]
  rw [e]
  have rows := compressed_of _ _ _ _ (A0 m c) (A6 m c) (A7 m c) (A8 m c) (seq t) (head t) (keys_at m c t) (pk_at m c t) (wk_at m c t) (uk_at m c t) n
  refine (congrArg₂ (fun r g => normed r g d) (funext rows) (funext fun d => g_at m c t d)).trans ?_
  rfl

/-- The array of compressed values the kernel leaves. -/
theorem valueArray : (dats m 0 c).arrAt 15 cfg0.N = blocks (f := .bf16) (A1 m c) (A9 m c) (A10 m c) (A11 m c) := by
  refine (dats m 0 c).arrAt_eq_of_covers 15 _ (by decide +kernel) fun t hf y => ?_
  blk_simp
  rw [after0_15]
  obtain ⟨n, d, rfl⟩ : ∃ (n : Fin 128) (d : Fin 64), y = ix4 0 0 n d := ⟨y 2, y 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩
  refine (values _ _ _ _ _ _ _ _ _ _ _ _ _ _ n d).trans ?_
  have e : (win0_15.blk t).view.emb (ix4 0 0 n d) = ix4 (seq t) (head t) n d := by
    unfold seq head
    blk_ext [idx t]
  rw [e]
  have rows := compressed_of _ _ _ _ (A1 m c) (A9 m c) (A10 m c) (A11 m c) (seq t) (head t) (values_at m c t) (pv_at m c t) (wv_at m c t) (uv_at m c t) n
  exact rows d

end Cert.KvprepIdeal.Array

end
-- ==== Proof.CmpGather.lean ====
/- A stack of sequences read by a table of token numbers. -/
module

public import Idealize.ShloMosaic.Lib.StableHlo.Predicate
public import Idealize.ShloMosaic.Lib.Pipeline.ValueKit

@[expose] public section

namespace Cert.Tokens

open Idealize.ShloMosaic

variable {α : Type} {B N H D n q : ℕ} (d : GatherDims ⟨4, ![B, N, H, D]⟩ ⟨3, ![n, q, 1]⟩ ⟨5, ![B, n, q, H, D]⟩) (hoff : d.offsetDims = [0, 3, 4])
  (hcoll : d.collapsedSliceDims = [1]) (hob : d.operandBatchingDims = []) (hsim : d.startIndexMap = [1]) (hivd : d.indexVectorDim = 2)

include hcoll hob in
/-- The axes read whole are all but the tokens'. -/
theorem kept_axes : d.sKept = [0, 2, 3] := by
  unfold GatherDims.sKept
  rw [hcoll, hob]
  rfl

include hoff in
/-- The result counts the table's places on its second and third axes. -/
theorem batch_axes : d.batchDims = [1, 2] := by
  unfold GatherDims.batchDims
  rw [hoff]
  rfl

include hivd in
/-- The table's own axes. -/
theorem table_axes : d.siKept = [0, 1] := by
  unfold GatherDims.siKept
  rw [hivd]
  rfl

/-- The table's first axis is the result's second. -/
theorem first_pair (l : List (Fin 5)) (l' : List (Fin 3)) (hl : l = [1, 2]) (hl' : l' = [0, 1]) (h) : l[l'.idxOf 0]'h = 1 := by
  subst hl hl'
  rfl

/-- The table's second axis is the result's third. -/
theorem second_pair (l : List (Fin 5)) (l' : List (Fin 3)) (hl : l = [1, 2]) (hl' : l' = [0, 1]) (h) : l[l'.idxOf 1]'h = 2 := by
  subst hl hl'
  rfl

include hoff hsim hivd in
/-- Entry `(b, i, p, h, e)` looks its token number up at place `(i, p)` of the table. -/
theorem lookup_place (b : Fin B) (i : Fin n) (p : Fin q) (h : Fin H) (e : Fin D) (k : Fin d.startIndexMap.length) :
    d.siIdx (ix5 b i p h e) k = ix3 i p (0 : Fin 1) := by
  have hk : k.val = 0 := Nat.lt_one_iff.1 (k.isLt.trans_eq (congrArg List.length hsim))
  funext a
  apply Fin.ext
  unfold GatherDims.siIdx
  match a with
  | ⟨0, _⟩ =>
    rw [dif_neg (by rw [hivd]; show ¬ (0 : ℕ) = 2; decide)]
    unfold GatherDims.siCoord
    rw [Fin.val_cast]
    exact congrArg (fun a => (ix5 b i p h e a).val) (first_pair _ _ (batch_axes d hoff) (table_axes d hivd) _)
  | ⟨1, _⟩ =>
    rw [dif_neg (by rw [hivd]; show ¬ (1 : ℕ) = 2; decide)]
    unfold GatherDims.siCoord
    rw [Fin.val_cast]
    exact congrArg (fun a => (ix5 b i p h e a).val) (second_pair _ _ (batch_axes d hoff) (table_axes d hivd) _)
  | ⟨2, _⟩ =>
    rw [dif_pos (by rw [hivd])]
    exact hk

include hoff hcoll hsim hivd in
/-- The token number is where the read starts on the tokens' axis. -/
theorem start_token (idx : IVec ⟨3, ![n, q, 1]⟩ 32) (b : Fin B) (i : Fin n) (p : Fin q) (h : Fin H) (e : Fin D) (s : Fin N)
    (hs : idx (ix3 i p (0 : Fin 1)) = BitVec.ofNat 32 s.val) (hN : N < 2 ^ 31) : d.start (ix5 b i p h e) idx (1 : Fin 4) = s.val := by
  have hsl := s.isLt
  have h1 : d.sliceSizes 1 = 1 := d.slice_collapsed 1 (by rw [hcoll]; exact List.mem_singleton.2 rfl)
  unfold GatherDims.start
  rw [dif_pos (by rw [hsim]; exact List.mem_singleton.2 rfl), lookup_place d hoff hsim hivd, hs, h1,
    StableHlo.Predicate.toInt_ofNat_small _ (by omega)]
  show min ((s.val : Int)).toNat (N - 1) = s.val
  omega

include hsim in
/-- On the other axes it starts at zero. -/
theorem start_other (idx : IVec ⟨3, ![n, q, 1]⟩ 32) (j : (⟨5, ![B, n, q, H, D]⟩ : Shape).Idx) (a : Fin 4) (ha : a ≠ 1) : d.start j idx a = 0 := by
  unfold GatherDims.start
  rw [dif_neg (by rw [hsim]; exact fun h => ha (List.mem_singleton.1 h))]

/-- The result's axes read whole, by the operand's. -/
theorem whole_axis (l : List (Fin 5)) (l' : List (Fin 4)) (a : Fin 4) (r : Fin 5) (ha : (a, r) ∈ [((0 : Fin 4), (0 : Fin 5)), (2, 3), (3, 4)])
    (hl : l = [0, 3, 4]) (hl' : l' = [0, 2, 3]) (h) : l[l'.idxOf a]'h = r := by
  subst hl hl'
  simp only [List.mem_cons, List.not_mem_nil, or_false, Prod.mk.injEq] at ha
  rcases ha with ⟨rfl, rfl⟩ | ⟨rfl, rfl⟩ | ⟨rfl, rfl⟩
  · rfl
  · rfl
  · rfl

include hoff hcoll hob in
/-- The offset on an axis read whole is the result's coordinate there. -/
theorem off_whole (j : (⟨5, ![B, n, q, H, D]⟩ : Shape).Idx) (a : Fin 4) (r : Fin 5) (ha : (a, r) ∈ [((0 : Fin 4), (0 : Fin 5)), (2, 3), (3, 4)])
    (hm : a ∈ [(0 : Fin 4), 2, 3]) : d.offCoord j a = (j r).val := by
  have hkept := kept_axes d hcoll hob
  unfold GatherDims.offCoord
  rw [dif_pos (by rw [hkept]; exact hm)]
  exact congrArg (fun a => (j a).val) (whole_axis _ _ a r ha hoff hkept _)

include hoff hcoll hob hsim hivd in
/-- Where the table holds `s` at `(i, p)`, entry `(b, i, p, h, e)` of the result is entry `(b, s, h, e)` of the stack. -/
theorem gather_tokens (x : (⟨4, ![B, N, H, D]⟩ : Shape).Idx → α) (idx : IVec ⟨3, ![n, q, 1]⟩ 32) (b : Fin B) (i : Fin n) (p : Fin q) (h : Fin H)
    (e : Fin D) (s : Fin N) (hs : idx (ix3 i p (0 : Fin 1)) = BitVec.ofNat 32 s.val) (hN : N < 2 ^ 31) :
    Host.gather d x idx (ix5 b i p h e) = x (ix4 b s h e) := by
  unfold Host.gather
  refine congrArg x (funext fun a => Fin.ext ?_)
  show d.start (ix5 b i p h e) idx a + d.batchCoord (ix5 b i p h e) a + d.offCoord (ix5 b i p h e) a = (ix4 b s h e a).val
  rw [d.batchCoord_eq_zero _ _ (by rw [hob]; exact List.not_mem_nil), Nat.add_zero]
  match a with
  | ⟨0, _⟩ =>
    exact (congrArg₂ (· + ·) (start_other d hsim idx _ (0 : Fin 4) (by decide)) (off_whole d hoff hcoll hob _ 0 0 (by decide) (by decide))).trans (Nat.zero_add _)
  | ⟨1, _⟩ =>
    refine (congrArg₂ (· + ·) (start_token d hoff hcoll hsim hivd idx b i p h e s hs hN) (d.offCoord_eq_zero _ (1 : Fin 4) fun h => ?_)).trans rfl
    exact ((d.mem_sKept 1).1 h).1 (by rw [hcoll]; exact List.mem_singleton.2 rfl)
  | ⟨2, _⟩ =>
    exact (congrArg₂ (· + ·) (start_other d hsim idx _ (2 : Fin 4) (by decide)) (off_whole d hoff hcoll hob _ 2 3 (by decide) (by decide))).trans (Nat.zero_add _)
  | ⟨3, _⟩ =>
    exact (congrArg₂ (· + ·) (start_other d hsim idx _ (3 : Fin 4) (by decide)) (off_whole d hoff hcoll hob _ 3 4 (by decide) (by decide))).trans (Nat.zero_add _)

end Cert.Tokens
-- ==== Proof.CmpRef.lean ====
/- What the compression's reference computes: the tokens of every block gathered by a table of token numbers, their
   position embeddings on top, through both matrices, by head, with a row of zeros past the last block. -/
module

public import proofs.«01_k».proof.Proof.Gen.KvprepRefIdeal.Run
public import proofs.«01_k».proof.Proof.CmpModel
public import proofs.«01_k».proof.Proof.CmpGather

@[expose] public section

set_option maxRecDepth 16384

noncomputable section

namespace Cert.KvprepRefIdeal.Rows

open Cert.KvprepRefIdeal Cert.KvprepRefIdeal.Gen Cert.KvprepRefIdeal.Value Cert.Compressed Idealize.ShloMosaic Idealize.ShloMosaic.TcCoe

/-! ## The table of token numbers -/

/-- Token numbers: blocks start every 16 tokens. -/
def numbersOf : IVec S127x32 32 :=
  addi (broadcastInDim S127x32 ![0, 1] bcast_S127x1_S127x32_0_1 (muli (broadcastInDim S127x1 ![0] bcast_S127_S127x1_0 (iotaInDim S127 32 0)) (broadcastInDim S127x1 ![] bcast_S_S127x1 (constantI S_ 32 16#32))))
    (broadcastInDim S127x32 ![0, 1] bcast_S1x32_S127x32_0_1 (broadcastInDim S1x32 ![1] bcast_S32_S1x32_1 (iotaInDim S32 32 0)))

/-- The table the tokens are gathered by: negative numbers would count from the end. -/
def tableOf : IVec S127x32x1 32 :=
  broadcastInDim S127x32x1 ![0, 1] bcast_S127x32_S127x32x1_0_1 (select (cmpi .slt numbersOf (broadcastInDim S127x32 ![] bcast_S_S127x32 (constantI S_ 32 0#32)))
    (addi numbersOf (broadcastInDim S127x32 ![] bcast_S_S127x32 (constantI S_ 32 2048#32))) numbersOf)

/-- Token `p` of block `i`. -/
def tokenOf (i : Fin 127) (p : Fin 32) : Fin 2048 := ⟨16 * i.val + p.val, by omega⟩

theorem numbers_at (i : Fin 127) (p : Fin 32) : numbersOf (ix2 i p) = BitVec.ofNat 32 (tokenOf i p).val := by
  have h : numbersOf (ix2 i p) = BitVec.ofNat 32 i.val * 16#32 + BitVec.ofNat 32 p.val := by
    unfold numbersOf
    pointwise
    try rfl
  rw [h]
  apply BitVec.eq_of_toNat_eq
  simp only [BitVec.toNat_add, BitVec.toNat_mul, BitVec.toNat_ofNat, tokenOf]
  omega

theorem table_at (i : Fin 127) (p : Fin 32) : tableOf (ix3 i p 0) = BitVec.ofNat 32 (tokenOf i p).val := by
  have h : tableOf (ix3 i p 0) = Scalar.select (IntOp.cmpi .slt (numbersOf (ix2 i p)) 0#32) (IntOp.addi (numbersOf (ix2 i p)) 2048#32) (numbersOf (ix2 i p)) := by
    unfold tableOf
    generalize numbersOf = x
    pointwise
    try rfl
  rw [h, numbers_at]
  have hlt := (tokenOf i p).isLt
  generalize (tokenOf i p).val = s at hlt ⊢
  have hs : IntOp.cmpi .slt (BitVec.ofNat 32 s) 0#32 = 0#1 := by
    have hw : (BitVec.ofNat 32 s).slt 0#32 = false := by
      rw [BitVec.slt_eq_decide, StableHlo.Predicate.toInt_ofNat_small _ (by omega), decide_eq_false_iff_not]
      exact not_lt.2 (Int.natCast_nonneg _)
    show (BitVec.ofBool ((BitVec.ofNat 32 s).slt 0#32) : BitVec 1) = 0#1
    rw [hw]; rfl
  rw [hs]
  rfl

/-! ## The numbers of every block -/

variable (t : FVec Ideal S16x2048x128 .bf16) (p : FVec Ideal S32x64 .f32) (w : FVec Ideal S2048x256 .f32) (v : FVec Ideal S256x64 .f32)
  (g : FVec Ideal S3x64 .f32)

/-- The tokens by head. -/
def headsOf : FVec Ideal S16x2048x2x64 .f32 := shapeCast _ (extf .f32 t bitsLt_bf16_f32) shapeCasts_S16x2048x128_S16x2048x2x64

theorem heads_at (b : Fin 16) (s : Fin 2048) (h : Fin 2) (e : Fin 64) : headsOf t (ix4 b s h e) = t (ix3 b s (column h e)) := by
  unfold headsOf column
  pointwise

/-- The gathered tokens. -/
def takenOf : FVec Ideal S16x127x32x2x64 .f32 := Host.gather gather_S16x2048x2x64_S127x32x1_S16x127x32x2x64_034_1_n_n_1_2_161264 (headsOf t) tableOf

theorem taken_at (b : Fin 16) (i : Fin 127) (q : Fin 32) (h : Fin 2) (e : Fin 64) :
    takenOf t (ix5 b i q h e) = t (ix3 b (tokenOf i q) (column h e)) :=
  (Tokens.gather_tokens _ rfl rfl rfl rfl rfl (headsOf t) tableOf b i q h e (tokenOf i q) (table_at i q) (by decide)).trans (heads_at t b _ h e)

/-- The numbers of a block, position embeddings on top. -/
def placedOf (x : FVec Ideal S16x127x32x2x64 .f32) : FVec Ideal S16x127x2x2048 .f32 :=
  shapeCast _ (transpose S16x127x2x32x64 [0, 1, 3, 2, 4] (addf x
    (broadcastInDim S16x127x32x2x64 ![0, 1, 2, 3, 4] bcast_S1x1x32x1x64_S16x127x32x2x64_0_1_2_3_4 (broadcastInDim S1x1x32x1x64 ![2, 4] bcast_S32x64_S1x1x32x1x64_2_4 p)))
    transposes_S16x127x32x2x64_S16x127x2x32x64_0_1_3_2_4) shapeCasts_S16x127x2x32x64_S16x127x2x2048

theorem placed_at (x : FVec Ideal S16x127x32x2x64 .f32) (b : Fin 16) (i : Fin 127) (h : Fin 2) (k : Fin 2048) :
    placedOf p x (ix4 b i h k) = x (ix5 b i (within k) h (inHead k)) + p (ix2 (within k) (inHead k)) := by
  unfold placedOf within inHead
  pointwise

/-- The hidden numbers. -/
def hiddenOf (x : FVec Ideal S16x127x2x2048 .f32) : FVec Ideal S16x127x2x256 .f32 :=
  Host.dotGeneral dot_S16x127x2x2048_S2048x256_S16x127x2x256_3_0_012_1_n_n none x w

theorem hidden_at (x : FVec Ideal S16x127x2x2048 .f32) (b : Fin 16) (i : Fin 127) (h : Fin 2) (f : Fin 256) :
    hiddenOf w x (ix4 b i h f) = ∑ k, x (ix4 b i h k) * w (ix2 k f) := by
  unfold hiddenOf
  pointwise

/-- The hidden numbers gated, times the second matrix. -/
def rowsOf (x : FVec Ideal S16x127x2x256 .f32) : FVec Ideal S16x127x2x64 .f32 :=
  Host.dotGeneral dot_S16x127x2x256_S256x64_S16x127x2x64_3_0_012_1_n_n none (mulf x (Host.divf (broadcastInDim S16x127x2x256 ![] bcast_S_S16x127x2x256 (constant S_ .f32 0x3F800000#32))
    (addf (broadcastInDim S16x127x2x256 ![] bcast_S_S16x127x2x256 (constant S_ .f32 0x3F800000#32)) (Host.exp (Host.negf x))))) v

theorem rows_at (x : FVec Ideal S16x127x2x256 .f32) (b : Fin 16) (i : Fin 127) (h : Fin 2) (d : Fin 64) :
    rowsOf v x (ix4 b i h d) = ∑ f, gated (x (ix4 b i h f)) * v (ix2 f d) := by
  unfold rowsOf
  pointwise
  rfl

/-- The compressed blocks. -/
def blocksOf : FVec Ideal S16x127x2x64 .f32 := rowsOf v (hiddenOf w (placedOf p (takenOf t)))

/-- Block `i` among the rows. -/
def among (i : Fin 127) : Fin 128 := ⟨i.val, by omega⟩

theorem token_eq (i : Fin 127) (k : Fin 2048) : tokenOf i (within k) = token (among i) k := by
  apply Fin.ext
  simp only [tokenOf, within, token, among]
  omega

theorem blocks_at (b : Fin 16) (i : Fin 127) (h : Fin 2) (d : Fin 64) :
    blocksOf t p w v (ix4 b i h d) = blocks (f := .f32) t p w v (ix4 b h (among i) d) := by
  unfold blocksOf
  rw [rows_at]
  show _ = ∑ f, gated (hidden (number t p b h (among i)) fun k => w (ix2 k f)) * v (ix2 f d)
  refine Finset.sum_congr rfl fun f _ => congrArg (gated · * _) ?_
  rw [hidden_at]
  simp only [placed_at, taken_at, token_eq]
  exact sum_halves _

/-! ## The norms -/

/-- The norms of rows. -/
def normedOf (x : FVec Ideal S16x127x2x64 .f32) : FVec Ideal S16x127x2x64 .f32 :=
  mulf (mulf x (broadcastInDim S16x127x2x64 ![0, 1, 2, 3] bcast_S16x127x2x1_S16x127x2x64_0_1_2_3 (Host.rsqrt (addf (Host.divf (broadcastInDim S16x127x2x1 ![0, 1, 2] bcast_S16x127x2_S16x127x2x1_0_1_2
      (Host.reduceAdd (mulf x x) (constant S_ .f32 0x00000000#32) reducesTo_S16x127x2x64_S16x127x2_d3 h_S_)) (broadcastInDim S16x127x2x1 ![] bcast_S_S16x127x2x1 (constant S_ .f32 0x42800000#32)))
        (broadcastInDim S16x127x2x1 ![] bcast_S_S16x127x2x1 (constant S_ .f32 0x358637BD#32))))))
    (broadcastInDim S16x127x2x64 ![0, 1, 2, 3] bcast_S1x1x1x64_S16x127x2x64_0_1_2_3 (broadcastInDim S1x1x1x64 ![3] bcast_S64_S1x1x1x64_3
      (shapeCast _ (extractStridedSlice S1x64 ![0, 0] g slices_S3x64_S1x64_0_0) shapeCasts_S1x64_S64)))

theorem normed_at (x : FVec Ideal S16x127x2x64 .f32) (b : Fin 16) (i : Fin 127) (h : Fin 2) (d : Fin 64) :
    normedOf g x (ix4 b i h d) = normed (fun d => x (ix4 b i h d)) (fun d => g (ix2 0 d)) d := by
  unfold normedOf
  pointwise
  rfl

/-! ## The rows by head -/

/-- The rows by head, zeros past the last. -/
def outOf (x : FVec Ideal S16x127x2x64 .f32) : FVec Ideal S16x2x128x64 .bf16 :=
  truncf .bf16 (pad S16x2x128x64 ![0, 0, 0, 0] ![0, 0, 1, 0] ![0, 0, 0, 0] (transpose S16x2x127x64 [0, 2, 1, 3] x transposes_S16x127x2x64_S16x2x127x64_0_2_1_3)
    (sitofp .f32 (constantI S_ 32 0#32)) pads_S16x2x127x64_S16x2x128x64_000_000_010_000 h_S_) bitsLt_bf16_f32

theorem out_at (x : FVec Ideal S16x127x2x64 .f32) (b : Fin 16) (i : Fin 127) (h : Fin 2) (d : Fin 64) :
    outOf x (ix4 b h (among i) d) = x (ix4 b i h d) := by
  unfold outOf among
  pointwise

/-- Rows of blocks are the compressed keys. -/
theorem keyRows (b : Fin 16) (i : Fin 127) (h : Fin 2) (d : Fin 64) :
    outOf (normedOf g (blocksOf t p w v)) (ix4 b h (among i) d) = normedBlocks (f := .bf16) t p w v g (ix4 b h (among i) d) := by
  rw [out_at, normed_at]
  simp only [blocks_at]
  rfl

/-- Rows of blocks are the compressed values. -/
theorem valueRows (b : Fin 16) (i : Fin 127) (h : Fin 2) (d : Fin 64) :
    outOf (blocksOf t p w v) (ix4 b h (among i) d) = blocks (f := .bf16) t p w v (ix4 b h (among i) d) :=
  (out_at _ b i h d).trans (blocks_at t p w v b i h d)

/-- The printed compressed keys are those terms. -/
theorem printed_keys (m : (ℓ : Loc nD τ sig) → Buf (Elt Ideal) ℓ) (c : Dev nD) :
    res_out0 m c = outOf (normedOf (m ((c.tc : Thread nD τ).loc main_arg5)) (blocksOf (m ((c.tc : Thread nD τ).loc main_arg0))
      (m ((c.tc : Thread nD τ).loc main_arg6)) (m ((c.tc : Thread nD τ).loc main_arg7)) (m ((c.tc : Thread nD τ).loc main_arg8)))) := rfl

/-- The printed compressed values are those terms. -/
theorem printed_values (m : (ℓ : Loc nD τ sig) → Buf (Elt Ideal) ℓ) (c : Dev nD) :
    res_out1 m c = outOf (blocksOf (m ((c.tc : Thread nD τ).loc main_arg1))
      (m ((c.tc : Thread nD τ).loc main_arg9)) (m ((c.tc : Thread nD τ).loc main_arg10)) (m ((c.tc : Thread nD τ).loc main_arg11))) := rfl

end Cert.KvprepRefIdeal.Rows

end
-- ==== Proof.CmpClaims.lean ====
/- The claims on the compressed keys and values: kernel and reference leave the same blocks, and the frames. -/
module

public import proofs.«01_k».proof.Defs
public import proofs.«01_k».proof.Proof.Gen.Kvprep.Frame
public import proofs.«01_k».proof.Proof.Gen.KvprepIdeal.Frame
public import proofs.«01_k».proof.Proof.Gen.On_blocks_inside
public import proofs.«01_k».proof.Proof.CmpArray
public import proofs.«01_k».proof.Proof.CmpRef
public import Idealize.ShloMosaic.Adequacy
public import Idealize.ShloMosaic.Init

@[expose] public section

set_option maxRecDepth 16384

noncomputable section

namespace Cert.CmpClaims

open Idealize.ShloMosaic Idealize.SL.Sem Cert.Compressed

/-- The frame of the kernel at the bit-exact instance. -/
theorem frame_kernel : Cert.quiescent_Kvprep := fun m ρ _ => Cert.Kvprep.Gen.frame m ρ

/-- The frame of the kernel at the ideal instance. -/
theorem frame_ideal : Cert.quiescent_KvprepIdeal := fun m ρ _ => Cert.KvprepIdeal.Gen.frame m ρ

/-- The frame of the reference: it ends with its arguments unchanged, and it has no semaphore. -/
theorem frame_reference : Cert.quiescent_KvprepRefIdeal := fun m ρ _ =>
  (θ_run Cert.KvprepRefIdeal.defs _ _).mono (fun r h => ⟨fun c => (h c).2.2, sem_eq_zero_of_no_sems (by decide) r.2⟩)
    (Cert.KvprepRefIdeal.Value.run (F := Ideal) m ρ)

/-- A row number the mask selects is a block's. -/
theorem row_lt (n : Fin 128) (h : IntOp.cmpi .slt (BitVec.ofNat 32 n.val) 127#32 = 1#1) : n.val < 127 := by
  revert n
  decide +kernel

/-- An index of a row the mask selects, by sequence, head, block and place. -/
theorem index_of (i : (⟨4, ![16, 2, 128, 64]⟩ : Shape).Idx) (h : (i 2).val < 127) :
    ∃ (b : Fin 16) (a : Fin 2) (n : Fin 127) (d : Fin 64), i = ix4 b a (KvprepRefIdeal.Rows.among n) d :=
  ⟨i 0, i 1, ⟨(i 2).val, h⟩, i 3, by
    funext a
    match a with
    | ⟨0, _⟩ => rfl
    | ⟨1, _⟩ => rfl
    | ⟨2, _⟩ => rfl
    | ⟨3, _⟩ => rfl⟩

/-- Kernel and reference agree: from equal arguments both end with the same compressed keys and values on the rows of
    blocks. -/
theorem equal : Cert.algebraic_KvprepIdeal_KvprepRefIdeal_on_blocks_inside := by
  intro m ρ m' ρ' _ hag
  refine ⟨fun c => normedBlocks (f := .bf16) (KvprepIdeal.Array.A0 m c) (KvprepIdeal.Array.A6 m c) (KvprepIdeal.Array.A7 m c)
      (KvprepIdeal.Array.A8 m c) (KvprepIdeal.Array.A5 m c),
    fun c => blocks (f := .bf16) (KvprepIdeal.Array.A1 m c) (KvprepIdeal.Array.A9 m c) (KvprepIdeal.Array.A10 m c) (KvprepIdeal.Array.A11 m c), ?_, ?_⟩
  · exact (θ_run _ _ _).mono (fun _ h c => ⟨fun i _ => congrFun ((h c).1.trans (Cert.KvprepIdeal.Array.keyArray m c)) i,
      fun i _ => congrFun ((h c).2.1.trans (Cert.KvprepIdeal.Array.valueArray m c)) i, (h c).2.2.2.2⟩) (Cert.KvprepIdeal.Value.run_blocks (F := Ideal) m ρ)
  · refine (θ_run _ _ _).mono (fun _ h c => ⟨fun i hi => (congrFun ((h c).1.trans (Cert.KvprepRefIdeal.Rows.printed_keys m' c)) i).trans ?_,
      fun i hi => (congrFun ((h c).2.1.trans (Cert.KvprepRefIdeal.Rows.printed_values m' c)) i).trans ?_, (h c).2.2⟩)
      (Cert.KvprepRefIdeal.Value.run (F := Ideal) m' ρ')
    · obtain ⟨h0, h1, h2, h3, h4, h5, h6, h7, h8, -⟩ := hag c
      obtain ⟨b, a, n, d, rfl⟩ := index_of i (row_lt (i 2) hi)
      refine (Cert.KvprepRefIdeal.Rows.keyRows _ _ _ _ _ b n a d).trans ?_
      rw [h0, h5, h6, h7, h8]
    · obtain ⟨h0, h1, h2, h3, h4, h5, h6, h7, h8, h9, h10, h11⟩ := hag c
      obtain ⟨b, a, n, d, rfl⟩ := index_of i (row_lt (i 2) hi)
      refine (Cert.KvprepRefIdeal.Rows.valueRows _ _ _ _ b n a d).trans ?_
      rw [h1, h9, h10, h11]

end Cert.CmpClaims

end
-- ==== Proof.lean ====
module

public import proofs.«01_k».proof.Defs
public import proofs.«01_k».proof.Proof.Gen.Gla
public import proofs.«01_k».proof.Proof.Gen.GlaIdeal
public import proofs.«01_k».proof.Proof.Gen.GlaRefIdeal
public import proofs.«01_k».proof.Proof.Gen.Moe
public import proofs.«01_k».proof.Proof.Gen.MoeIdeal
public import proofs.«01_k».proof.Proof.Gen.MoeRefIdeal
public import proofs.«01_k».proof.Proof.Gen.Inproj
public import proofs.«01_k».proof.Proof.Gen.InprojIdeal
public import proofs.«01_k».proof.Proof.Gen.InprojRefIdeal
public import proofs.«01_k».proof.Proof.Gen.Outproj
public import proofs.«01_k».proof.Proof.Gen.OutprojIdeal
public import proofs.«01_k».proof.Proof.Gen.OutprojRefIdeal
public import proofs.«01_k».proof.Proof.Gen.Kvprep
public import proofs.«01_k».proof.Proof.Gen.KvprepIdeal
public import proofs.«01_k».proof.Proof.Gen.KvprepRefIdeal
public import proofs.«01_k».proof.Proof.Gen.Pre_experts_named
public import proofs.«01_k».proof.Proof.Gen.On_blocks_inside
public import proofs.«01_k».proof.Proof.GlaClaims
public import proofs.«01_k».proof.Proof.MoeClaims
public import proofs.«01_k».proof.Proof.InClaims
public import proofs.«01_k».proof.Proof.OutClaims
public import proofs.«01_k».proof.Proof.CmpClaims

@[expose] public section

noncomputable section

namespace Cert.Proof

open Idealize.ShloMosaic Idealize.SL.Sem

/-- All claims of the certificate. -/
theorem claim : Cert.Claim := ⟨Cert.Gla.Gen.facts, Cert.GlaIdeal.Gen.facts, Cert.GlaRefIdeal.Gen.facts,
  Cert.Moe.Gen.facts, Cert.MoeIdeal.Gen.facts, Cert.MoeRefIdeal.Gen.facts,
  Cert.Inproj.Gen.facts, Cert.InprojIdeal.Gen.facts, Cert.InprojRefIdeal.Gen.facts,
  Cert.Outproj.Gen.facts, Cert.OutprojIdeal.Gen.facts, Cert.OutprojRefIdeal.Gen.facts,
  Cert.Kvprep.Gen.facts, Cert.KvprepIdeal.Gen.facts, Cert.KvprepRefIdeal.Gen.facts, Cert.Pre_experts_named.Gen.facts, Cert.On_blocks_inside.Gen.facts,
  GlaClaims.frame_kernel, GlaClaims.frame_ideal, GlaClaims.frame_reference,
  MoeClaims.frame_kernel, MoeClaims.frame_ideal, MoeClaims.frame_reference, MoeClaims.frame_reference_named,
  InClaims.frame_kernel, InClaims.frame_ideal, InClaims.frame_reference,
  OutClaims.frame_kernel, OutClaims.frame_ideal, OutClaims.frame_reference,
  CmpClaims.frame_kernel, CmpClaims.frame_ideal, CmpClaims.frame_reference,
  trivial, GlaClaims.equal, trivial, MoeClaims.equal, trivial, InClaims.equal,
  trivial, OutClaims.equal, trivial, CmpClaims.equal⟩

end Cert.Proof

end
